-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_angles [hPre_finite_angles : Cert.Pre_finite_angles.Facts] (m : (ℓ : Loc Cert.KernelIdeal.nD Cert.KernelIdeal.τ Cert.KernelIdeal.sig) → Buf (Elt Ideal) ℓ) : Prop :=
  ∀ c : Dev Cert.KernelIdeal.nD,
    (Cert.Pre_finite_angles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_angles [hPre_finite_angles : Cert.Pre_finite_angles.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_angles.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_angles [hKernelIdeal : Cert.KernelIdeal.Facts] [hPre_finite_angles : Cert.Pre_finite_angles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_angles m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_angles [hReferenceIdeal : Cert.ReferenceIdeal.Facts] [hPre_finite_angles : Cert.Pre_finite_angles.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_angles m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_angles [hKernelIdeal : Cert.KernelIdeal.Facts] [hReferenceIdeal : Cert.ReferenceIdeal.Facts] [hPre_finite_angles : Cert.Pre_finite_angles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_angles m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_angles : Cert.Pre_finite_angles.Facts),
    quiescent_Kernel (hKernel := hKernel)
    ∧ quiescent_KernelIdeal (hKernelIdeal := hKernelIdeal)
    ∧ quiescent_KernelIdeal_pre_finite_angles (hKernelIdeal := hKernelIdeal) (hPre_finite_angles := hPre_finite_angles)
    ∧ quiescent_ReferenceIdeal (hReferenceIdeal := hReferenceIdeal)
    ∧ quiescent_ReferenceIdeal_pre_finite_angles (hReferenceIdeal := hReferenceIdeal) (hPre_finite_angles := hPre_finite_angles)
    ∧ preserves_Kernel_KernelIdeal
    ∧ algebraic_KernelIdeal_ReferenceIdeal_pre_finite_angles (hKernelIdeal := hKernelIdeal) (hReferenceIdeal := hReferenceIdeal) (hPre_finite_angles := hPre_finite_angles)
-- ==== Pre_finite_angles.lean ====
abbrev S512x12 : Shape := ⟨2, ![512, 12]⟩
abbrev S6x12 : Shape := ⟨2, ![6, 12]⟩
abbrev S64x12 : Shape := ⟨2, ![64, 12]⟩
abbrev S64 : Shape := ⟨1, ![64]⟩
abbrev S_ : Shape := ⟨0, ![]⟩
abbrev S518x12 : Shape := ⟨2, ![518, 12]⟩

class Facts : Prop where
  bcast_S_S512x12 : S_.BroadcastsInDim S512x12 (![] : Fin 0 → Fin S512x12.rank)
  bcast_S_S6x12 : S_.BroadcastsInDim S6x12 (![] : Fin 0 → Fin S6x12.rank)
  concatenates_S512x12_S6x12_S518x12_d0 : Shape.Concatenates [S512x12, S6x12] S518x12 0

variable [Facts]

def fn {F : FTy → Type} [FloatOps F] (main_arg0 : FVec F S512x12 .f32) (main_arg1 : FVec F S6x12 .f32) (main_arg2 : FVec F S64x12 .f32) (main_arg3 : FVec F S64 .f32) : IVec S518x12 1 :=
  let main_v0 : FVec F S512x12 .f32 := Host.absf main_arg0
  let main_cst : FVec F S_ .f32 := constant S_ .f32 0x7F800000#32
  let main_v1 : FVec F S512x12 .f32 := broadcastInDim S512x12 ![] bcast_S_S512x12 main_cst
  let main_v2 : IVec S512x12 1 := cmpf .olt main_v0 main_v1
  let main_v3 : FVec F S6x12 .f32 := Host.absf main_arg1
  let main_cst_0 : FVec F S_ .f32 := constant S_ .f32 0x7F800000#32
  let main_v4 : FVec F S6x12 .f32 := broadcastInDim S6x12 ![] bcast_S_S6x12 main_cst_0
  let main_v5 : IVec S6x12 1 := cmpf .olt main_v3 main_v4
  let main_v6 : IVec S518x12 1 := (fun a b => concatenate S518x12 0 [⟨S512x12, a⟩, ⟨S6x12, b⟩] concatenates_S512x12_S6x12_S518x12_d0) main_v2 main_v5
  main_v6
-- ==== Kernel.lean ====
abbrev S512x12 : Shape := ⟨2, ![512, 12]⟩
abbrev S6x12 : Shape := ⟨2, ![6, 12]⟩
abbrev S64x12 : Shape := ⟨2, ![64, 12]⟩
abbrev S64 : Shape := ⟨1, ![64]⟩
abbrev S12x512 : Shape := ⟨2, ![12, 512]⟩
abbrev S64x1 : Shape := ⟨2, ![64, 1]⟩
abbrev S64x512 : Shape := ⟨2, ![64, 512]⟩
abbrev S12x256 : Shape := ⟨2, ![12, 256]⟩
abbrev S64x256 : Shape := ⟨2, ![64, 256]⟩
abbrev S8x128 : Shape := ⟨2, ![8, 128]⟩
abbrev S1x8x256 : Shape := ⟨3, ![1, 8, 256]⟩
abbrev S1x256 : Shape := ⟨2, ![1, 256]⟩
abbrev S2x256 : Shape := ⟨2, ![2, 256]⟩
abbrev S4x256 : Shape := ⟨2, ![4, 256]⟩
abbrev S8x256 : Shape := ⟨2, ![8, 256]⟩
abbrev S16x256 : Shape := ⟨2, ![16, 256]⟩
abbrev S32x256 : Shape := ⟨2, ![32, 256]⟩
abbrev S128x256 : Shape := ⟨2, ![128, 256]⟩
abbrev S256x256 : Shape := ⟨2, ![256, 256]⟩
abbrev S512x256 : Shape := ⟨2, ![512, 256]⟩
abbrev S1024x256 : Shape := ⟨2, ![1024, 256]⟩
abbrev S2048x256 : Shape := ⟨2, ![2048, 256]⟩
abbrev S4096x256 : Shape := ⟨2, ![4096, 256]⟩
abbrev S64x64 : Shape := ⟨2, ![64, 64]⟩
abbrev S512x8x256 : Shape := ⟨3, ![512, 8, 256]⟩
abbrev S1x1 : Shape := ⟨2, ![1, 1]⟩
abbrev S64x2x32x256 : Shape := ⟨4, ![64, 2, 32, 256]⟩
abbrev S64x1x32x256 : Shape := ⟨4, ![64, 1, 32, 256]⟩
abbrev S128x2x16x256 : Shape := ⟨4, ![128, 2, 16, 256]⟩
abbrev S128x1x16x256 : Shape := ⟨4, ![128, 1, 16, 256]⟩
abbrev S256x2x8x256 : Shape := ⟨4, ![256, 2, 8, 256]⟩
abbrev S256x1x8x256 : Shape := ⟨4, ![256, 1, 8, 256]⟩
abbrev S512x4x256 : Shape := ⟨3, ![512, 4, 256]⟩
abbrev S512x2x256 : Shape := ⟨3, ![512, 2, 256]⟩
abbrev S512x6x256 : Shape := ⟨3, ![512, 6, 256]⟩
abbrev S512x1x256 : Shape := ⟨3, ![512, 1, 256]⟩
abbrev S512x7x256 : Shape := ⟨3, ![512, 7, 256]⟩
abbrev S64x64x256 : Shape := ⟨3, ![64, 64, 256]⟩
abbrev S1x4x1024x256 : Shape := ⟨4, ![1, 4, 1024, 256]⟩
abbrev S1x2x1024x256 : Shape := ⟨4, ![1, 2, 1024, 256]⟩
abbrev S1x1x1024x256 : Shape := ⟨4, ![1, 1, 1024, 256]⟩
abbrev S2x4x512x256 : Shape := ⟨4, ![2, 4, 512, 256]⟩
abbrev S2x2x512x256 : Shape := ⟨4, ![2, 2, 512, 256]⟩
abbrev S2x1x512x256 : Shape := ⟨4, ![2, 1, 512, 256]⟩
abbrev S4x4x256x256 : Shape := ⟨4, ![4, 4, 256, 256]⟩
abbrev S4x2x256x256 : Shape := ⟨4, ![4, 2, 256, 256]⟩
abbrev S4x1x256x256 : Shape := ⟨4, ![4, 1, 256, 256]⟩
abbrev S8x4x128x256 : Shape := ⟨4, ![8, 4, 128, 256]⟩
abbrev S8x2x128x256 : Shape := ⟨4, ![8, 2, 128, 256]⟩
abbrev S8x1x128x256 : Shape := ⟨4, ![8, 1, 128, 256]⟩
abbrev S16x4x64x256 : Shape := ⟨4, ![16, 4, 64, 256]⟩
abbrev S16x2x64x256 : Shape := ⟨4, ![16, 2, 64, 256]⟩
abbrev S16x1x64x256 : Shape := ⟨4, ![16, 1, 64, 256]⟩
abbrev S32x4x32x256 : Shape := ⟨4, ![32, 4, 32, 256]⟩
abbrev S32x2x32x256 : Shape := ⟨4, ![32, 2, 32, 256]⟩
abbrev S32x1x32x256 : Shape := ⟨4, ![32, 1, 32, 256]⟩
abbrev S64x4x16x256 : Shape := ⟨4, ![64, 4, 16, 256]⟩
abbrev S64x2x16x256 : Shape := ⟨4, ![64, 2, 16, 256]⟩
abbrev S64x1x16x256 : Shape := ⟨4, ![64, 1, 16, 256]⟩
abbrev S128x4x8x256 : Shape := ⟨4, ![128, 4, 8, 256]⟩
abbrev S128x2x8x256 : Shape := ⟨4, ![128, 2, 8, 256]⟩
abbrev S128x1x8x256 : Shape := ⟨4, ![128, 1, 8, 256]⟩
abbrev S256x8x256 : Shape := ⟨3, ![256, 8, 256]⟩
abbrev S256x4x256 : Shape := ⟨3, ![256, 4, 256]⟩
abbrev S2x256x8x256 : Shape := ⟨4, ![2, 256, 8, 256]⟩
abbrev S1x256x8x256 : Shape := ⟨4, ![1, 256, 8, 256]⟩
abbrev S12x4096 : Shape := ⟨2, ![12, 4096]⟩

abbrev nBuf : Space → Nat
  | .hbm => 7
  | .vmem => 8
  | .smem => 0
  | _ => 0

abbrev bufTy : (tb : Table) → Fin (tcTables nBuf tb) → BufTy
  | .hbm, ⟨0, _⟩ => ⟨S512x12, .f32⟩
  | .hbm, ⟨1, _⟩ => ⟨S6x12, .f32⟩
  | .hbm, ⟨2, _⟩ => ⟨S64x12, .f32⟩
  | .hbm, ⟨3, _⟩ => ⟨S64, .f32⟩
  | .hbm, ⟨4, _⟩ => ⟨S12x512, .f32⟩
  | .hbm, ⟨5, _⟩ => ⟨S64x1, .f32⟩
  | .hbm, ⟨6, _⟩ => ⟨S64x512, .f32⟩
  | .local _ .vmem, ⟨0, _⟩ => ⟨S12x256, .f32⟩
  | .local _ .vmem, ⟨1, _⟩ => ⟨S12x256, .f32⟩
  | .local _ .vmem, ⟨2, _⟩ => ⟨S6x12, .f32⟩
  | .local _ .vmem, ⟨3, _⟩ => ⟨S64x12, .f32⟩
  | .local _ .vmem, ⟨4, _⟩ => ⟨S64x1, .f32⟩
  | .local _ .vmem, ⟨5, _⟩ => ⟨S64x256, .f32⟩
  | .local _ .vmem, ⟨6, _⟩ => ⟨S64x256, .f32⟩
  | .local _ .vmem, ⟨7, _⟩ => ⟨S8x128, .f32⟩
  | _, _ => ⟨S512x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S512x12 : Shape := ⟨2, ![512, 12]⟩
abbrev S6x12 : Shape := ⟨2, ![6, 12]⟩
abbrev S64x12 : Shape := ⟨2, ![64, 12]⟩
abbrev S64 : Shape := ⟨1, ![64]⟩
abbrev S4096 : Shape := ⟨1, ![4096]⟩
abbrev S12x512 : Shape := ⟨2, ![12, 512]⟩
abbrev S72x1 : Shape := ⟨2, ![72, 1]⟩
abbrev S72x512 : Shape := ⟨2, ![72, 512]⟩
abbrev S84x512 : Shape := ⟨2, ![84, 512]⟩
abbrev S_ : Shape := ⟨0, ![]⟩
abbrev S4096x1 : Shape := ⟨2, ![4096, 1]⟩
abbrev S4096x512 : Shape := ⟨2, ![4096, 512]⟩
abbrev S1x512 : Shape := ⟨2, ![1, 512]⟩
abbrev S12x4096 : Shape := ⟨2, ![12, 4096]⟩
abbrev S64x512 : Shape := ⟨2, ![64, 512]⟩
abbrev S64x1 : Shape := ⟨2, ![64, 1]⟩

abbrev nBuf : Space → Nat
  | .hbm => 276
  | .vmem => 0
  | .smem => 0
  | _ => 0

abbrev hbmTy0_0 (i : Nat) : BufTy := match i % 128 with
  | 0 => ⟨S512x12, .f32⟩
  | 1 => ⟨S6x12, .f32⟩
  | 2 => ⟨S64x12, .f32⟩
  | 3 => ⟨S64, .f32⟩
  | 4 => ⟨S4096, .i32⟩
  | 5 => ⟨S12x512, .f32⟩
  | 6 => ⟨S72x1, .f32⟩
  | 7 => ⟨S72x512, .f32⟩
  | 8 => ⟨S84x512, .f32⟩
  | 9 => ⟨S_, .f32⟩
  | 10 => ⟨S84x512, .f32⟩
  | 11 => ⟨S84x512, .f32⟩
  | 12 => ⟨S84x512, .f32⟩
  | 13 => ⟨S_, .f32⟩
  | 14 => ⟨S84x512, .f32⟩
  | 15 => ⟨S84x512, .f32⟩
  | 16 => ⟨S84x512, .f32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S4096, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S4096, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .i32⟩
  | 97 => ⟨S_, .i32⟩
  | 98 => ⟨S4096, .i32⟩
  | 99 => ⟨S4096, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i32⟩
  | 106 => ⟨S4096, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S4096, .i32⟩
  | 127 => ⟨S_, .i32⟩
  | _ => ⟨S512x12, .f32⟩

abbrev hbmTy0_1 (i : Nat) : BufTy := match i % 128 with
  | 0 => ⟨S4096, .i32⟩
  | 1 => ⟨S4096, .i32⟩
  | 2 => ⟨S_, .i32⟩
  | 3 => ⟨S4096, .i32⟩
  | 4 => ⟨S4096, .i32⟩
  | 5 => ⟨S_, .i32⟩
  | 6 => ⟨S4096, .i32⟩
  | 7 => ⟨S4096, .i32⟩
  | 8 => ⟨S4096, .i32⟩
  | 9 => ⟨S_, .i32⟩
  | 10 => ⟨S4096, .i32⟩
  | 11 => ⟨S4096, .i1⟩
  | 12 => ⟨S_, .f32⟩
  | 13 => ⟨S_, .f32⟩
  | 14 => ⟨S4096, .f32⟩
  | 15 => ⟨S4096, .f32⟩
  | 16 => ⟨S4096, .f32⟩
  | 17 => ⟨S4096x1, .f32⟩
  | 18 => ⟨S4096x512, .f32⟩
  | 19 => ⟨S_, .f32⟩
  | 20 => ⟨S4096x512, .f32⟩
  | 21 => ⟨S_, .i32⟩
  | 22 => ⟨S_, .i32⟩
  | 23 => ⟨S84x512, .f32⟩
  | 24 => ⟨S84x512, .f32⟩
  | 25 => ⟨S4096, .i32⟩
  | 26 => ⟨S4096, .i32⟩
  | 27 => ⟨S_, .i32⟩
  | 28 => ⟨S_, .i32⟩
  | 29 => ⟨S4096x512, .f32⟩
  | 30 => ⟨S4096x512, .f32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S1x512, .f32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S1x512, .f32⟩
  | 53 => ⟨S_, .i32⟩
  | 54 => ⟨S_, .i32⟩
  | 55 => ⟨S_, .i32⟩
  | 56 => ⟨S_, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S4096, .i32⟩
  | 67 => ⟨S4096x1, .i32⟩
  | 68 => ⟨S4096x512, .f32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S_, .i32⟩
  | 91 => ⟨S_, .i1⟩
  | 92 => ⟨S_, .i32⟩
  | 93 => ⟨S_, .i1⟩
  | 94 => ⟨S_, .i1⟩
  | 95 => ⟨S_, .i1⟩
  | 96 => ⟨S_, .i1⟩
  | 97 => ⟨S_, .i1⟩
  | 98 => ⟨S_, .i1⟩
  | 99 => ⟨S_, .i1⟩
  | 100 => ⟨S_, .i1⟩
  | 101 => ⟨S_, .i1⟩
  | 102 => ⟨S_, .i1⟩
  | 103 => ⟨S4096, .i32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S4096x512, .f32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S4096x512, .f32⟩
  | 122 => ⟨S_, .i32⟩
  | 123 => ⟨S_, .i32⟩
  | 124 => ⟨S4096x512, .f32⟩
  | 125 => ⟨S4096x512, .f32⟩
  | 126 => ⟨S4096x512, .f32⟩
  | 127 => ⟨S12x4096, .i32⟩
  | _ => ⟨S512x12, .f32⟩

abbrev hbmTy0_2 (i : Nat) : BufTy := match i % 128 with
  | 0 => ⟨S12x4096, .i32⟩
  | 1 => ⟨S_, .i32⟩
  | 2 => ⟨S12x4096, .i32⟩
  | 3 => ⟨S12x4096, .i32⟩
  | 4 => ⟨S12x4096, .i32⟩
  | 5 => ⟨S_, .i32⟩
  | 6 => ⟨S12x4096, .i32⟩
  | 7 => ⟨S12x4096, .i32⟩
  | 8 => ⟨S_, .i32⟩
  | 9 => ⟨S12x4096, .i32⟩
  | 10 => ⟨S12x4096, .i32⟩
  | 11 => ⟨S_, .i32⟩
  | 12 => ⟨S12x4096, .i32⟩
  | 13 => ⟨S12x4096, .i32⟩
  | 14 => ⟨S12x4096, .f32⟩
  | 15 => ⟨S12x512, .f32⟩
  | 16 => ⟨S64x512, .f32⟩
  | 17 => ⟨S64x1, .f32⟩
  | 18 => ⟨S64x512, .f32⟩
  | 19 => ⟨S64x512, .f32⟩
  | _ => ⟨S512x12, .f32⟩

abbrev hbmTy (i : Nat) : BufTy := match i / 128 with
  | 0 => hbmTy0_0 i
  | 1 => hbmTy0_1 i
  | 2 => hbmTy0_2 i
  | _ => ⟨S512x12, .f32⟩

abbrev bufTy : (tb : Table) → Fin (tcTables nBuf tb) → BufTy
  | .hbm, ⟨i, _⟩ => hbmTy i
  | _, _ => ⟨S512x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_12 : Ref sig .tc := ⟨.hbm, 57, rfl⟩
abbrev main_v39 : Ref sig .tc := ⟨.hbm, 58, rfl⟩
abbrev main_v40 : Ref sig .tc := ⟨.hbm, 59, rfl⟩
abbrev main_c_13 : Ref sig .tc := ⟨.hbm, 60, rfl⟩
abbrev main_v41 : Ref sig .tc := ⟨.hbm, 61, rfl⟩
abbrev main_v42 : Ref sig .tc := ⟨.hbm, 62, rfl⟩
abbrev main_c_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_15 : Ref sig .tc := ⟨.hbm, 67, rfl⟩
abbrev main_v46 : Ref sig .tc := ⟨.hbm, 68, rfl⟩
abbrev main_v47 : Ref sig .tc := ⟨.hbm, 69, rfl⟩
abbrev main_c_16 : Ref sig .tc := ⟨.hbm, 70, rfl⟩
abbrev main_v48 : Ref sig .tc := ⟨.hbm, 71, rfl⟩
abbrev main_v49 : Ref sig .tc := ⟨.hbm, 72, rfl⟩
abbrev main_c_17 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_18 : Ref sig .tc := ⟨.hbm, 77, rfl⟩
abbrev main_v53 : Ref sig .tc := ⟨.hbm, 78, rfl⟩
abbrev main_v54 : Ref sig .tc := ⟨.hbm, 79, rfl⟩
abbrev main_c_19 : Ref sig .tc := ⟨.hbm, 80, rfl⟩
abbrev main_v55 : Ref sig .tc := ⟨.hbm, 81, rfl⟩
abbrev main_v56 : Ref sig .tc := ⟨.hbm, 82, rfl⟩
abbrev main_c_20 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_21 : Ref sig .tc := ⟨.hbm, 87, rfl⟩
abbrev main_v60 : Ref sig .tc := ⟨.hbm, 88, rfl⟩
abbrev main_v61 : Ref sig .tc := ⟨.hbm, 89, rfl⟩
abbrev main_c_22 : Ref sig .tc := ⟨.hbm, 90, rfl⟩
abbrev main_v62 : Ref sig .tc := ⟨.hbm, 91, rfl⟩
abbrev main_v63 : Ref sig .tc := ⟨.hbm, 92, rfl⟩
abbrev main_c_23 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_24 : Ref sig .tc := ⟨.hbm, 97, rfl⟩
abbrev main_v67 : Ref sig .tc := ⟨.hbm, 98, rfl⟩
abbrev main_v68 : Ref sig .tc := ⟨.hbm, 99, rfl⟩
abbrev main_c_25 : Ref sig .tc := ⟨.hbm, 100, rfl⟩
abbrev main_v69 : Ref sig .tc := ⟨.hbm, 101, rfl⟩
abbrev main_v70 : Ref sig .tc := ⟨.hbm, 102, rfl⟩
abbrev main_c_26 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_27 : Ref sig .tc := ⟨.hbm, 107, rfl⟩
abbrev main_v74 : Ref sig .tc := ⟨.hbm, 108, rfl⟩
abbrev main_v75 : Ref sig .tc := ⟨.hbm, 109, rfl⟩
abbrev main_c_28 : Ref sig .tc := ⟨.hbm, 110, rfl⟩
abbrev main_v76 : Ref sig .tc := ⟨.hbm, 111, rfl⟩
abbrev main_v77 : Ref sig .tc := ⟨.hbm, 112, rfl⟩
abbrev main_c_29 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_30 : Ref sig .tc := ⟨.hbm, 117, rfl⟩
abbrev main_v81 : Ref sig .tc := ⟨.hbm, 118, rfl⟩
abbrev main_v82 : Ref sig .tc := ⟨.hbm, 119, rfl⟩
abbrev main_c_31 : Ref sig .tc := ⟨.hbm, 120, rfl⟩
abbrev main_v83 : Ref sig .tc := ⟨.hbm, 121, rfl⟩
abbrev main_v84 : Ref sig .tc := ⟨.hbm, 122, rfl⟩
abbrev main_c_32 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_33 : Ref sig .tc := ⟨.hbm, 127, rfl⟩
abbrev main_v88 : Ref sig .tc := ⟨.hbm, 128, rfl⟩
abbrev main_v89 : Ref sig .tc := ⟨.hbm, 129, rfl⟩
abbrev main_c_34 : Ref sig .tc := ⟨.hbm, 130, rfl⟩
abbrev main_v90 : Ref sig .tc := ⟨.hbm, 131, rfl⟩
abbrev main_v91 : Ref sig .tc := ⟨.hbm, 132, rfl⟩
abbrev main_c_35 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_36 : Ref sig .tc := ⟨.hbm, 137, rfl⟩
abbrev main_v95 : Ref sig .tc := ⟨.hbm, 138, rfl⟩
abbrev main_v96 : Ref sig .tc := ⟨.hbm, 139, rfl⟩
abbrev main_cst_37 : Ref sig .tc := ⟨.hbm, 140, rfl⟩
abbrev main_cst_38 : Ref sig .tc := ⟨.hbm, 141, rfl⟩
abbrev main_call0_v0 : Ref sig .tc := ⟨.hbm, 142, rfl⟩
abbrev main_call0_v1 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_39 : Ref sig .tc := ⟨.hbm, 147, rfl⟩
abbrev main_v100 : Ref sig .tc := ⟨.hbm, 148, rfl⟩
abbrev main_c_40 : Ref sig .tc := ⟨.hbm, 149, rfl⟩
abbrev main_c_41 : Ref sig .tc := ⟨.hbm, 150, rfl⟩
abbrev main_v101_0 : Ref sig .tc := ⟨.hbm, 151, rfl⟩
abbrev main_v101_1 : Ref sig .tc := ⟨.hbm, 152, rfl⟩
abbrev main_v101_2 : Ref sig .tc := ⟨.hbm, 153, rfl⟩
abbrev main_v101_3 : Ref sig .tc := ⟨.hbm, 154, rfl⟩
abbrev main_v101_4 : Ref sig .tc := ⟨.hbm, 155, rfl⟩
abbrev main_v101_5 : Ref sig .tc := ⟨.hbm, 156, rfl⟩
abbrev main_v101_6 : Ref sig .tc := ⟨.hbm, 157, rfl⟩
abbrev main_v101_7 : Ref sig .tc := ⟨.hbm, 158, rfl⟩
abbrev main_while0c_c_53 : Ref sig .tc := ⟨.hbm, 159, rfl⟩
abbrev main_while0c_v122 : Ref sig .tc := ⟨.hbm, 160, rfl⟩
abbrev main_while0b_c_53 : Ref sig .tc := ⟨.hbm, 161, rfl⟩
abbrev main_while0b_v122 : Ref sig .tc := ⟨.hbm, 162, rfl⟩
abbrev main_while0b_c_54 : Ref sig .tc := ⟨.hbm, 163, rfl⟩
abbrev main_while0b_v123 : Ref sig .tc := ⟨.hbm, 164, rfl⟩
abbrev main_while0b_c_55 : Ref sig .tc := ⟨.hbm, 165, rfl⟩
abbrev main_while0b_v124 : Ref sig .tc := ⟨.hbm, 166, rfl⟩
abbrev main_while0b_v125 : Ref sig .tc := ⟨.hbm, 167, rfl⟩
abbrev main_while0b_c_56 : Ref sig .tc := ⟨.hbm, 168, rfl⟩
abbrev main_while0b_v126 : Ref sig .tc := ⟨.hbm, 169, rfl⟩
abbrev main_while0b_v127 : Ref sig .tc := ⟨.hbm, 170, rfl⟩
abbrev main_while0b_c_57 : Ref sig .tc := ⟨.hbm, 171, rfl⟩
abbrev main_while0b_v128 : Ref sig .tc := ⟨.hbm, 172, rfl⟩
abbrev main_while0b_c_58 : Ref sig .tc := ⟨.hbm, 173, rfl⟩
abbrev main_while0b_v129 : Ref sig .tc := ⟨.hbm, 174, rfl⟩
abbrev main_while0b_v130 : Ref sig .tc := ⟨.hbm, 175, rfl⟩
abbrev main_while0b_c_59 : Ref sig .tc := ⟨.hbm, 176, rfl⟩
abbrev main_while0b_v131 : Ref sig .tc := ⟨.hbm, 177, rfl⟩
abbrev main_while0b_v132 : Ref sig .tc := ⟨.hbm, 178, rfl⟩
abbrev main_while0b_c_60 : Ref sig .tc := ⟨.hbm, 179, rfl⟩
abbrev main_while0b_v133 : Ref sig .tc := ⟨.hbm, 180, rfl⟩
abbrev main_while0b_c_61 : Ref sig .tc := ⟨.hbm, 181, rfl⟩
abbrev main_while0b_v134 : Ref sig .tc := ⟨.hbm, 182, rfl⟩
abbrev main_while0b_c_62 : Ref sig .tc := ⟨.hbm, 183, rfl⟩
abbrev main_while0b_v135 : Ref sig .tc := ⟨.hbm, 184, rfl⟩
abbrev main_while0b_v136 : Ref sig .tc := ⟨.hbm, 185, rfl⟩
abbrev main_while0b_v137 : Ref sig .tc := ⟨.hbm, 186, rfl⟩
abbrev main_while0b_v138 : Ref sig .tc := ⟨.hbm, 187, rfl⟩
abbrev main_while0b_c_63 : Ref sig .tc := ⟨.hbm, 188, rfl⟩
abbrev main_while0b_v139 : Ref sig .tc := ⟨.hbm, 189, rfl⟩
abbrev main_while0b_v140 : Ref sig .tc := ⟨.hbm, 190, rfl⟩
abbrev main_while0b_c_64 : Ref sig .tc := ⟨.hbm, 191, rfl⟩
abbrev main_while0b_v141 : Ref sig .tc := ⟨.hbm, 192, rfl⟩
abbrev main_while0b_v142 : Ref sig .tc := ⟨.hbm, 193, rfl⟩
abbrev main_while0b_v143 : Ref sig .tc := ⟨.hbm, 194, rfl⟩
abbrev main_while0b_v144 : Ref sig .tc := ⟨.hbm, 195, rfl⟩
abbrev main_while0b_v145 : Ref sig .tc := ⟨.hbm, 196, rfl⟩
abbrev main_while0b_c_65 : Ref sig .tc := ⟨.hbm, 197, rfl⟩
abbrev main_while0b_v146 : Ref sig .tc := ⟨.hbm, 198, rfl⟩
abbrev main_while0b_v147 : Ref sig .tc := ⟨.hbm, 199, rfl⟩
abbrev main_while0b_c_66 : Ref sig .tc := ⟨.hbm, 200, rfl⟩
abbrev main_while0b_v148 : Ref sig .tc := ⟨.hbm, 201, rfl⟩
abbrev main_while0b_v149 : Ref sig .tc := ⟨.hbm, 202, rfl⟩
abbrev main_while0b_v150 : Ref sig .tc := ⟨.hbm, 203, rfl⟩
abbrev main_while0b_v151 : Ref sig .tc := ⟨.hbm, 204, rfl⟩
abbrev main_while0b_v152 : Ref sig .tc := ⟨.hbm, 205, rfl⟩
abbrev main_while0b_v153 : Ref sig .tc := ⟨.hbm, 206, rfl⟩
abbrev main_while0b_v154 : Ref sig .tc := ⟨.hbm, 207, rfl⟩
abbrev main_while0b_v155 : Ref sig .tc := ⟨.hbm, 208, rfl⟩
abbrev main_while0b_v156 : Ref sig .tc := ⟨.hbm, 209, rfl⟩
abbrev main_while0b_v157 : Ref sig .tc := ⟨.hbm, 210, rfl⟩
abbrev main_while0b_v158 : Ref sig .tc := ⟨.hbm, 211, rfl⟩
abbrev main_while0b_v159 : Ref sig .tc := ⟨.hbm, 212, rfl⟩
abbrev main_while0b_v160 : Ref sig .tc := ⟨.hbm, 213, rfl⟩
abbrev main_while0b_v161 : Ref sig .tc := ⟨.hbm, 214, rfl⟩
abbrev main_while0b_v162 : Ref sig .tc := ⟨.hbm, 215, rfl⟩
abbrev main_while0b_v163 : Ref sig .tc := ⟨.hbm, 216, rfl⟩
abbrev main_while0b_v164 : Ref sig .tc := ⟨.hbm, 217, rfl⟩
abbrev main_while0b_c_67 : Ref sig .tc := ⟨.hbm, 218, rfl⟩
abbrev main_while0b_v165 : Ref sig .tc := ⟨.hbm, 219, rfl⟩
abbrev main_while0b_c_68 : Ref sig .tc := ⟨.hbm, 220, rfl⟩
abbrev main_while0b_v166 : Ref sig .tc := ⟨.hbm, 221, rfl⟩
abbrev main_while0b_c_69 : Ref sig .tc := ⟨.hbm, 222, rfl⟩
abbrev main_while0b_v167 : Ref sig .tc := ⟨.hbm, 223, rfl⟩
abbrev main_while0b_v168 : Ref sig .tc := ⟨.hbm, 224, rfl⟩
abbrev main_while0b_v169 : Ref sig .tc := ⟨.hbm, 225, rfl⟩
abbrev main_while0b_c_70 : Ref sig .tc := ⟨.hbm, 226, rfl⟩
abbrev main_while0b_v170 : Ref sig .tc := ⟨.hbm, 227, rfl⟩
abbrev main_while0b_v171 : Ref sig .tc := ⟨.hbm, 228, rfl⟩
abbrev main_while0b_v172 : Ref sig .tc := ⟨.hbm, 229, rfl⟩
abbrev main_while0b_v173 : Ref sig .tc := ⟨.hbm, 230, rfl⟩
abbrev main_while0b_v174 : Ref sig .tc := ⟨.hbm, 231, rfl⟩
abbrev main_while0b_c_71 : Ref sig .tc := ⟨.hbm, 232, rfl⟩
abbrev main_while0b_v175 : Ref sig .tc := ⟨.hbm, 233, rfl⟩
abbrev main_while0b_v176 : Ref sig .tc := ⟨.hbm, 234, rfl⟩
abbrev main_while0b_c_72 : Ref sig .tc := ⟨.hbm, 235, rfl⟩
abbrev main_while0b_v177 : Ref sig .tc := ⟨.hbm, 236, rfl⟩
abbrev main_while0b_v178 : Ref sig .tc := ⟨.hbm, 237, rfl⟩
abbrev main_while0b_v179 : Ref sig .tc := ⟨.hbm, 238, rfl⟩
abbrev main_while0b_v180 : Ref sig .tc := ⟨.hbm, 239, rfl⟩
abbrev main_while0b_v181 : Ref sig .tc := ⟨.hbm, 240, rfl⟩
abbrev main_while0b_c_73 : Ref sig .tc := ⟨.hbm, 241, rfl⟩
abbrev main_while0b_v182 : Ref sig .tc := ⟨.hbm, 242, rfl⟩
abbrev main_while0b_v183 : Ref sig .tc := ⟨.hbm, 243, rfl⟩
abbrev main_while0b_c_74 : Ref sig .tc := ⟨.hbm, 244, rfl⟩
abbrev main_while0b_v184 : Ref sig .tc := ⟨.hbm, 245, rfl⟩
abbrev main_while0b_v185 : Ref sig .tc := ⟨.hbm, 246, rfl⟩
abbrev main_while0b_v186 : Ref sig .tc := ⟨.hbm, 247, rfl⟩
abbrev main_while0b_v187 : Ref sig .tc := ⟨.hbm, 248, rfl⟩
abbrev main_while0b_v188 : Ref sig .tc := ⟨.hbm, 249, rfl⟩
abbrev main_while0b_c_75 : Ref sig .tc := ⟨.hbm, 250, rfl⟩
abbrev main_while0b_v189 : Ref sig .tc := ⟨.hbm, 251, rfl⟩
abbrev main_v102 : Ref sig .tc := ⟨.hbm, 252, rfl⟩
abbrev main_v103 : Ref sig .tc := ⟨.hbm, 253, rfl⟩
abbrev main_v104 : Ref sig .tc := ⟨.hbm, 254, rfl⟩
abbrev main_v105 : Ref sig .tc := ⟨.hbm, 255, rfl⟩
abbrev main_v106 : Ref sig .tc := ⟨.hbm, 256, rfl⟩
abbrev main_c_42 : Ref sig .tc := ⟨.hbm, 257, rfl⟩
abbrev main_v107 : Ref sig .tc := ⟨.hbm, 258, rfl⟩
abbrev main_v108 : Ref sig .tc := ⟨.hbm, 259, rfl⟩
abbrev main_v109 : Ref sig .tc := ⟨.hbm, 260, rfl⟩
abbrev main_c_43 : Ref sig .tc := ⟨.hbm, 261, rfl⟩
abbrev main_v110 : Ref sig .tc := ⟨.hbm, 262, rfl⟩
abbrev main_v111 : Ref sig .tc := ⟨.hbm, 263, rfl⟩
abbrev main_c_44 : Ref sig .tc := ⟨.hbm, 264, rfl⟩
abbrev main_v112 : Ref sig .tc := ⟨.hbm, 265, rfl⟩
abbrev main_v113 : Ref sig .tc := ⟨.hbm, 266, rfl⟩
abbrev main_c_45 : Ref sig .tc := ⟨.hbm, 267, rfl⟩
abbrev main_v114 : Ref sig .tc := ⟨.hbm, 268, rfl⟩
abbrev main_v115 : Ref sig .tc := ⟨.hbm, 269, rfl⟩
abbrev main_v116 : Ref sig .tc := ⟨.hbm, 270, rfl⟩
abbrev main_v117 : Ref sig .tc := ⟨.hbm, 271, rfl⟩
abbrev main_v118 : Ref sig .tc := ⟨.hbm, 272, rfl⟩
abbrev main_v119 : Ref sig .tc := ⟨.hbm, 273, rfl⟩
abbrev main_v120 : Ref sig .tc := ⟨.hbm, 274, rfl⟩
abbrev main_v121 : Ref sig .tc := ⟨.hbm, 275, rfl⟩

abbrev nD : Nat := 1
abbrev τ : Topo := Topo.v7x

variable {F : FTy → Type} [FloatOps F]

abbrev main_while0_count : Scf.Loop 32 := ⟨0#32, 84#32, 1#32⟩
-- ==== Proof.Circuit.lean ====
/- The circuit's mathematics, with no arrays in it: a state is a function `ψ : ℕ → ℂ` whose values at `n < 4096` are the
   amplitudes of twelve wires, wire `w` being the bit of weight `2 ^ (11 - w)`. An RX gate mixes an amplitude with the one
   whose bit is flipped; RX gates commute; a run of gates on the first `k` wires is one sum over the `2 ^ k` patterns of
   flips (`gates_range`). From that sum come the product state of the embedding (`embed_eq`) and the one 64 by 64 real
   matrix that applies six gates at once, up to a phase that depends on the row alone (`gates_six`). -/
module

public import Mathlib.Data.Complex.Basic
public import Mathlib.Data.Complex.BigOperators
public import Mathlib.Algebra.BigOperators.Fin
public import Mathlib.Algebra.BigOperators.Intervals
public import Mathlib.Analysis.SpecialFunctions.Trigonometric.Basic
public import Mathlib.Tactic.Ring
public import Mathlib.Tactic.IntervalCases
public import Mathlib.Tactic.NormNum
public import Mathlib.Tactic.LinearCombination
public import Mathlib.Data.Nat.Bitwise

@[expose] public section

noncomputable section

namespace Cert.Circuit

open Finset Complex

/-- RX on wire `w`, by the angle whose half has cosine `c` and sine `s`. -/
def gate (c s : ℝ) (w : ℕ) (ψ : ℕ → ℂ) (n : ℕ) : ℂ := c * ψ n - I * s * ψ (n ^^^ 2 ^ (11 - w))

/-- RX on each wire of a list, in its order. -/
def gates (c s : ℕ → ℝ) (ws : List ℕ) (ψ : ℕ → ℂ) : ℕ → ℂ := ws.foldl (fun φ w => gate (c w) (s w) w φ) ψ

/-- The index a CNOT from wire `w` to the next wire of the ring reads. -/
def cx (w n : ℕ) : ℕ := if n / 2 ^ (11 - w) % 2 = 1 then n ^^^ 2 ^ (11 - (w + 1) % 12) else n

/-- The index the whole ring of CNOTs reads. -/
def ring (n : ℕ) : ℕ := [11, 10, 9, 8, 7, 6, 5, 4, 3, 2, 1, 0].foldl (fun r w => cx w r) n

/-- One layer: RX on every wire, then the ring. -/
def layer (c s : ℕ → ℝ) (ψ : ℕ → ℂ) (n : ℕ) : ℂ := gates c s (List.range 12) ψ (ring n)

/-- The state with all its amplitude on index zero. -/
def start (n : ℕ) : ℂ := if n = 0 then 1 else 0

/-! ## Flips and bits -/

theorem eq_of_div_mod {a b p : ℕ} (h : a / p = b / p) (h' : a % p = b % p) : a = b := by
  rw [← Nat.div_add_mod a p, ← Nat.div_add_mod b p, h, h']

theorem xor_one (m : ℕ) : m ^^^ 1 = if m % 2 = 1 then m - 1 else m + 1 := by
  have hd : (m ^^^ 1) / 2 ^ 1 = m / 2 := by rw [Nat.xor_div_two_pow]; exact Nat.xor_zero _
  have hm : (m ^^^ 1) % 2 ^ 1 = (m % 2 ^ 1) ^^^ (1 % 2 ^ 1) := Nat.xor_mod_two_pow
  rw [pow_one] at hd hm
  rcases Nat.mod_two_eq_zero_or_one m with h | h
  · rw [h] at hm
    have hm : (m ^^^ 1) % 2 = 1 := hm
    rw [if_neg (by omega)]; omega
  · rw [h] at hm
    have hm : (m ^^^ 1) % 2 = 0 := hm
    rw [if_pos h]; omega

theorem flip_eq (k n : ℕ) : n ^^^ 2 ^ k = if n / 2 ^ k % 2 = 1 then n - 2 ^ k else n + 2 ^ k := by
  have hp : 0 < 2 ^ k := Nat.two_pow_pos k
  have hd : (n ^^^ 2 ^ k) / 2 ^ k = n / 2 ^ k ^^^ 1 := by rw [Nat.xor_div_two_pow, Nat.div_self hp]
  have hm : (n ^^^ 2 ^ k) % 2 ^ k = n % 2 ^ k := by rw [Nat.xor_mod_two_pow, Nat.mod_self, Nat.xor_zero]
  have e := Nat.div_add_mod (n ^^^ 2 ^ k) (2 ^ k)
  have e' := Nat.div_add_mod n (2 ^ k)
  rw [hd, hm, xor_one] at e
  split at e
  · next h =>
    rw [if_pos h, ← e]
    have hq0 : n / 2 ^ k ≠ 0 := fun h0 => by rw [h0] at h; exact absurd h (by decide)
    obtain ⟨q, hq⟩ : ∃ q, n / 2 ^ k = q + 1 := ⟨n / 2 ^ k - 1, (Nat.sub_add_cancel (Nat.pos_of_ne_zero hq0)).symm⟩
    rw [hq, Nat.mul_succ] at e'
    rw [hq, Nat.add_sub_cancel]
    omega
  · next h =>
    rw [if_neg h, ← e, Nat.mul_succ]
    omega

/-- What flipping one bit does to any bit. -/
theorem bit_flip (i k n : ℕ) : (n ^^^ 2 ^ k) / 2 ^ i % 2 = if i = k then (n / 2 ^ i + 1) % 2 else n / 2 ^ i % 2 := by
  have h := Nat.testBit_xor (x := n) (y := 2 ^ k) (i := i)
  rw [Nat.testBit_two_pow, Nat.testBit_eq_decide_div_mod_eq, Nat.testBit_eq_decide_div_mod_eq] at h
  have a := Nat.mod_two_eq_zero_or_one ((n ^^^ 2 ^ k) / 2 ^ i)
  have b := Nat.mod_two_eq_zero_or_one (n / 2 ^ i)
  split
  · next e =>
    subst e
    rcases a with a | a <;> rcases b with b | b <;> simp [a, b] at h ⊢ <;> omega
  · next e =>
    have e : k ≠ i := fun h => e h.symm
    rcases a with a | a <;> rcases b with b | b <;> simp [a, b, e] at h ⊢

theorem flip_lt {k n : ℕ} (hk : k < 12) (hn : n < 4096) : n ^^^ 2 ^ k < 4096 :=
  Nat.xor_lt_two_pow (n := 12) hn (Nat.pow_lt_pow_right (by decide) hk)

theorem cx_lt {w n : ℕ} (hn : n < 4096) : cx w n < 4096 := by
  unfold cx
  split
  · exact flip_lt (by omega) hn
  · exact hn

theorem ring_lt {n : ℕ} (hn : n < 4096) : ring n < 4096 := by
  unfold ring
  simp only [List.foldl_cons, List.foldl_nil]
  exact cx_lt (cx_lt (cx_lt (cx_lt (cx_lt (cx_lt (cx_lt (cx_lt (cx_lt (cx_lt (cx_lt (cx_lt hn)))))))))))

/-! ## Gates -/

theorem gate_comm (c s c' s' : ℝ) (w w' : ℕ) (ψ : ℕ → ℂ) :
    gate c s w (gate c' s' w' ψ) = gate c' s' w' (gate c s w ψ) := by
  funext n
  simp only [gate, Nat.xor_assoc, Nat.xor_comm (2 ^ (11 - w)) (2 ^ (11 - w'))]
  ring

theorem gates_perm (c s : ℕ → ℝ) {ws ws' : List ℕ} (h : ws.Perm ws') (ψ : ℕ → ℂ) :
    gates c s ws ψ = gates c s ws' ψ :=
  h.foldl_eq' (fun _ _ _ _ _ => gate_comm ..) ψ

theorem gates_append (c s : ℕ → ℝ) (ws ws' : List ℕ) (ψ : ℕ → ℂ) :
    gates c s (ws ++ ws') ψ = gates c s ws' (gates c s ws ψ) := List.foldl_append

theorem gate_congr (c s : ℝ) (w : ℕ) {ψ φ : ℕ → ℂ} (h : ∀ n < 4096, ψ n = φ n) :
    ∀ n < 4096, gate c s w ψ n = gate c s w φ n := fun n hn => by
  unfold gate
  rw [h n hn, h _ (flip_lt (by omega) hn)]

theorem gates_congr (c s : ℕ → ℝ) (ws : List ℕ) : ∀ {ψ φ : ℕ → ℂ}, (∀ n < 4096, ψ n = φ n) →
    ∀ n < 4096, gates c s ws ψ n = gates c s ws φ n := by
  induction ws with
  | nil => exact fun h => h
  | cons w ws ih => exact fun h => ih (gate_congr _ _ w h)

/-- What wire `w` multiplies by, for a flip or none. -/
def factor (c s : ℕ → ℝ) (w b : ℕ) : ℂ := if b = 1 then -(I * s w) else c w

theorem sum_two (K : ℕ) (g : ℕ → ℂ) : ∑ m ∈ range (2 * K), g m = ∑ m ∈ range K, (g (2 * m) + g (2 * m + 1)) := by
  induction K with
  | zero => simp
  | succ K ih => rw [Nat.mul_succ, sum_range_succ, sum_range_succ, ih, sum_range_succ, add_assoc]

/-- Writing `2 * m + b` one place lower is writing `m` and then `b`. -/
theorem shift_xor (m k : ℕ) (hk : k < 12) (b : ℕ) (hb : b < 2) :
    (2 * m + b) * 2 ^ (11 - k) = (b * 2 ^ (11 - k)) ^^^ (m * 2 ^ (12 - k)) := by
  have hp : 0 < 2 ^ (11 - k) := Nat.two_pow_pos _
  have e : m * 2 ^ (12 - k) = (2 * m) * 2 ^ (11 - k) := by
    rw [show 12 - k = 11 - k + 1 by omega, pow_succ]; ring
  rw [e]
  refine eq_of_div_mod (p := 2 ^ (11 - k)) ?_ ?_
  · rw [Nat.xor_div_two_pow, Nat.mul_div_cancel _ hp, Nat.mul_div_cancel _ hp, Nat.mul_div_cancel _ hp]
    refine eq_of_div_mod (p := 2 ^ 1) ?_ ?_
    · rw [Nat.xor_div_two_pow, show b / 2 ^ 1 = 0 by omega, Nat.zero_xor]; omega
    · rw [Nat.xor_mod_two_pow, show 2 * m % 2 ^ 1 = 0 by omega, Nat.xor_zero]; omega
  · rw [Nat.xor_mod_two_pow, Nat.mul_mod_left, Nat.mul_mod_left, Nat.mul_mod_left]; rfl

/-- The first `k` wires' gates are one sum over the patterns of flips. -/
theorem gates_range (c s : ℕ → ℝ) (ψ : ℕ → ℂ) : ∀ k ≤ 12, ∀ n, gates c s (List.range k) ψ n
    = ∑ m ∈ range (2 ^ k), (∏ w ∈ range k, factor c s w (m / 2 ^ (k - 1 - w) % 2)) * ψ (n ^^^ (m * 2 ^ (12 - k))) := by
  intro k
  induction k with
  | zero => intro _ n; simp [gates]
  | succ k ih =>
    intro hk n
    have hk' : k ≤ 12 := by omega
    rw [List.range_succ, gates_append]
    show gate (c k) (s k) k (gates c s (List.range k) ψ) n = _
    unfold gate
    rw [ih hk', ih hk', pow_succ, mul_comm (2 ^ k) 2, sum_two, mul_sum, mul_sum, ← sum_sub_distrib]
    refine sum_congr rfl fun m _ => ?_
    have hp : ∀ b < 2, ∏ w ∈ range (k + 1), factor c s w ((2 * m + b) / 2 ^ (k + 1 - 1 - w) % 2)
        = (∏ w ∈ range k, factor c s w (m / 2 ^ (k - 1 - w) % 2)) * factor c s k b := by
      intro b hb
      rw [prod_range_succ]
      congr 1
      · refine prod_congr rfl fun w hw => ?_
        have hw := mem_range.mp hw
        rw [show k + 1 - 1 - w = (k - 1 - w) + 1 by omega, pow_succ', ← Nat.div_div_eq_div_mul,
          show (2 * m + b) / 2 = m by omega]
      · rw [show k + 1 - 1 - k = 0 by omega, pow_zero, Nat.div_one, show (2 * m + b) % 2 = b by omega]
    have h0 := hp 0 (by omega)
    have h1 := hp 1 (by omega)
    have x0 := shift_xor m k (by omega) 0 (by omega)
    have x1 := shift_xor m k (by omega) 1 (by omega)
    rw [show 12 - (k + 1) = 11 - k by omega]
    simp only [add_zero, zero_mul, Nat.zero_xor, one_mul] at h0 h1 x0 x1
    rw [h0, h1, x0, x1, Nat.xor_assoc]
    simp only [factor, if_true, zero_ne_one, if_false]
    ring

/-! ## The embedding's product state -/

theorem embed_eq (c s : ℕ → ℝ) (n : ℕ) (hn : n < 4096) :
    gates c s (List.range 12) start n = ∏ w ∈ range 12, factor c s w (n / 2 ^ (11 - w) % 2) := by
  rw [gates_range c s start 12 le_rfl, sum_eq_single n]
  · simp [start]
  · intro m _ hm
    have : n ^^^ m ≠ 0 := fun h => hm (Nat.xor_eq_zero_iff.mp h).symm
    simp [start, this]
  · intro h; exact absurd (mem_range.mpr hn) h

/-! ## Six gates at once -/

/-- How many of the six bits of `m` are set. -/
def pc (m : ℕ) : ℕ := m / 32 % 2 + m / 16 % 2 + m / 8 % 2 + m / 4 % 2 + m / 2 % 2 + m % 2

/-- The product of the six wires' cosines and sines for a pattern of flips. -/
def amp (c s : ℕ → ℝ) (m : ℕ) : ℝ := ∏ w ∈ range 6, if m / 2 ^ (5 - w) % 2 = 1 then s w else c w

theorem pc_xor : ∀ j < 64, ∀ k < 64, pc (j ^^^ k) + 2 * pc (j &&& k) = pc j + pc k := by decide +kernel

theorem prod_factor (c s : ℕ → ℝ) (m : ℕ) :
    ∏ w ∈ range 6, factor c s w (m / 2 ^ (6 - 1 - w) % 2) = (amp c s m : ℂ) * (-I) ^ pc m := by
  have hf : ∀ w, factor c s w (m / 2 ^ (6 - 1 - w) % 2)
      = ((if m / 2 ^ (5 - w) % 2 = 1 then s w else c w : ℝ) : ℂ) * (-I) ^ (m / 2 ^ (5 - w) % 2) := by
    intro w
    rcases Nat.mod_two_eq_zero_or_one (m / 2 ^ (5 - w)) with h | h <;>
      simp [factor, h, mul_comm]
  rw [prod_congr rfl fun w _ => hf w, prod_mul_distrib, amp, ofReal_prod, prod_pow_eq_pow_sum]
  congr 2
  simp [sum_range_succ, pc]

theorem negI_pow_two (p : ℕ) : (-I) ^ (2 * p) = (-1) ^ p := by rw [pow_mul, neg_sq, I_sq]

theorem negI_pow (p : ℕ) : (-I) ^ p = (-1) ^ p * I ^ p := by rw [← mul_pow, neg_one_mul]

theorem phase {j k : ℕ} (hj : j < 64) (hk : k < 64) :
    (-I) ^ pc (j ^^^ k) = (-I) ^ pc j * ((-1) ^ (pc k + pc (j &&& k)) * I ^ pc k) := by
  have h := congrArg (fun p => (-I) ^ p) (pc_xor j hj k hk)
  simp only [pow_add, negI_pow_two] at h
  have h1 : ((-1 : ℂ) ^ pc (j &&& k)) * (-1) ^ pc (j &&& k) = 1 := by rw [← mul_pow]; simp
  calc (-I) ^ pc (j ^^^ k) = (-I) ^ pc (j ^^^ k) * (-1) ^ pc (j &&& k) * (-1) ^ pc (j &&& k) := by
        rw [mul_assoc, h1, mul_one]
    _ = _ := by rw [h, negI_pow (pc k), pow_add]; ring

theorem xor_rows {n k : ℕ} (hn : n < 4096) (hk : k < 64) : n ^^^ ((n / 64 ^^^ k) * 64) = k * 64 + n % 64 := by
  have hd : (n ^^^ ((n / 64 ^^^ k) * 64)) / 2 ^ 6 = k := by
    rw [Nat.xor_div_two_pow, show (n / 64 ^^^ k) * 64 / 2 ^ 6 = n / 64 ^^^ k by omega,
      show n / 2 ^ 6 = n / 64 by norm_num, ← Nat.xor_assoc, Nat.xor_self, Nat.zero_xor]
  have hm : (n ^^^ ((n / 64 ^^^ k) * 64)) % 2 ^ 6 = n % 64 := by
    rw [Nat.xor_mod_two_pow, show (n / 64 ^^^ k) * 64 % 2 ^ 6 = 0 by omega, Nat.xor_zero]
  omega

/-- The real matrix on the top six bits, applied to the amplitudes already multiplied by their rows' phases. -/
def block (a : ℕ → ℝ) (ψ : ℕ → ℂ) (n : ℕ) : ℂ :=
  ∑ k ∈ range 64, ((a (n / 64 ^^^ k) * (-1) ^ (pc k + pc (n / 64 &&& k)) : ℝ) : ℂ) * (I ^ pc k * ψ (k * 64 + n % 64))

theorem gates_six (c s : ℕ → ℝ) (ψ : ℕ → ℂ) (n : ℕ) (hn : n < 4096) :
    gates c s (List.range 6) ψ n = (-I) ^ pc (n / 64) * block (amp c s) ψ n := by
  have hj : n / 64 < 64 := by omega
  rw [gates_range c s ψ 6 (by decide), block, mul_sum]
  refine sum_nbij' (fun m => n / 64 ^^^ m) (fun k => n / 64 ^^^ k) ?_ ?_ ?_ ?_ ?_
  · exact fun m hm => mem_range.mpr (Nat.xor_lt_two_pow (n := 6) hj (mem_range.mp hm))
  · exact fun m hm => mem_range.mpr (Nat.xor_lt_two_pow (n := 6) hj (mem_range.mp hm))
  · intro m _; simp only [← Nat.xor_assoc, Nat.xor_self, Nat.zero_xor]
  · intro m _; simp only [← Nat.xor_assoc, Nat.xor_self, Nat.zero_xor]
  · intro m hm
    have hm : m < 64 := mem_range.mp hm
    have hk : n / 64 ^^^ m < 64 := Nat.xor_lt_two_pow (n := 6) hj hm
    have hx : n / 64 ^^^ (n / 64 ^^^ m) = m := by rw [← Nat.xor_assoc, Nat.xor_self, Nat.zero_xor]
    have hr := xor_rows hn hk
    rw [hx] at hr
    have hp := phase hj hk
    rw [hx] at hp
    rw [prod_factor, hx, ← hr, hp]
    push_cast
    ring

/-- A layer's twelve gates, the six low wires first and the six high ones by the matrix. -/
theorem gates_twelve (c s : ℕ → ℝ) (ψ : ℕ → ℂ) (n : ℕ) (hn : n < 4096) : gates c s (List.range 12) ψ n
    = (-I) ^ pc (n / 64) * block (amp c s) (gates c s [6, 7, 8, 9, 10, 11] ψ) n := by
  rw [← gates_six c s _ n hn, ← gates_append]
  exact congrFun (gates_perm c s (by decide) ψ) n

theorem normSq_phase (p : ℕ) (z : ℂ) : normSq ((-I) ^ p * z) = normSq z := by
  rw [normSq_mul, map_pow, normSq_neg, normSq_I, one_pow, one_mul]

/-! ## The last ring, read backwards -/

/-- The number of set bits of the twelve bits of `m`. -/
def pc12 (m : ℕ) : ℕ := pc (m / 64) + pc m

/-- The parity the kernel weighs index `n` with for wire `w`. -/
def par (w n : ℕ) : ℕ := (if w = 0 then pc12 n + n / 2048 else pc12 (n / 2 ^ (11 - w))) % 2

theorem bit_cx (i w n : ℕ) (hw : w < 12) (hi : i < 12) : cx w n / 2 ^ i % 2
    = if i = 11 - (w + 1) % 12 then (n / 2 ^ i + n / 2 ^ (11 - w)) % 2 else n / 2 ^ i % 2 := by
  have b := Nat.mod_two_eq_zero_or_one (n / 2 ^ (11 - w))
  unfold cx
  split
  · next h => rw [bit_flip]; split <;> omega
  · next h => split <;> omega

/-- The bits of the index the ring reads. -/
theorem bit_ring (i n : ℕ) (hi : i < 12) : ring n / 2 ^ i % 2
    = if i = 11 then (n / 2 ^ 11 + n / 2 ^ 0) % 2 else if i = 10 then (n / 2 ^ 10 + n / 2 ^ 11 + n / 2 ^ 0) % 2
      else (n / 2 ^ i + n / 2 ^ (i + 1)) % 2 := by
  have step : ∀ i w n, i < 12 → w < 12 → cx w n / 2 ^ i % 2
      = (n / 2 ^ i % 2 + if i = 11 - (w + 1) % 12 then n / 2 ^ (11 - w) % 2 else 0) % 2 := fun i w n hi hw => by
    rw [bit_cx i w n hw hi]; split <;> omega
  unfold ring
  simp only [List.foldl_cons, List.foldl_nil]
  interval_cases i <;>
    simp only [step, Nat.reduceLT, Nat.reduceSub, Nat.reduceAdd, Nat.reduceMod, Nat.reduceEqDiff, if_true, if_false,
      reduceIte, add_zero] <;> omega

theorem par_ring (n : ℕ) (hn : n < 4096) (w : ℕ) (hw : w < 12) : par w (ring n) = n / 2 ^ (11 - w) % 2 := by
  have hr := ring_lt hn
  have h0 := bit_ring 0 n (by decide); have h1 := bit_ring 1 n (by decide); have h2 := bit_ring 2 n (by decide)
  have h3 := bit_ring 3 n (by decide); have h4 := bit_ring 4 n (by decide); have h5 := bit_ring 5 n (by decide)
  have h6 := bit_ring 6 n (by decide); have h7 := bit_ring 7 n (by decide); have h8 := bit_ring 8 n (by decide)
  have h9 := bit_ring 9 n (by decide); have h10 := bit_ring 10 n (by decide); have h11 := bit_ring 11 n (by decide)
  simp only [Nat.reduceEqDiff, reduceIte, Nat.reduceAdd] at h0 h1 h2 h3 h4 h5 h6 h7 h8 h9 h10 h11
  generalize ring n = r at *
  have hz : ∀ i, 12 ≤ i → r / 2 ^ i = 0 := fun i hi => Nat.div_eq_of_lt (lt_of_lt_of_le hr (Nat.pow_le_pow_right (by decide : 0 < 2) hi : 2 ^ 12 ≤ 2 ^ i))
  have hs : ∀ a b, r / 2 ^ a / 2 ^ b = r / 2 ^ (a + b) := fun a b => by rw [Nat.div_div_eq_div_mul, ← pow_add]
  have hp : ∀ a, pc12 (r / 2 ^ a) = r / 2 ^ (a + 11) % 2 + r / 2 ^ (a + 10) % 2 + r / 2 ^ (a + 9) % 2 + r / 2 ^ (a + 8) % 2
      + r / 2 ^ (a + 7) % 2 + r / 2 ^ (a + 6) % 2 + (r / 2 ^ (a + 5) % 2 + r / 2 ^ (a + 4) % 2 + r / 2 ^ (a + 3) % 2
      + r / 2 ^ (a + 2) % 2 + r / 2 ^ (a + 1) % 2 + r / 2 ^ a % 2) := fun a => by
    simp only [pc12, pc, Nat.div_div_eq_div_mul, pow_add, Nat.mul_assoc]
    norm_num
  have h12 : r / 2 ^ 11 % 2 = r / 2 ^ 11 := Nat.mod_eq_of_lt (by omega)
  by_cases w0 : w = 0
  · subst w0
    have := hp 0
    rw [pow_zero, Nat.div_one] at this
    simp only [par, if_true, this, Nat.zero_add, Nat.sub_zero, show r / 2048 = r / 2 ^ 11 from rfl]
    rw [pow_zero] at *
    generalize r / 2 ^ 11 = x11 at *; generalize r / 2 ^ 10 = x10 at *; generalize r / 2 ^ 9 = x9 at *
    generalize r / 2 ^ 8 = x8 at *; generalize r / 2 ^ 7 = x7 at *; generalize r / 2 ^ 6 = x6 at *
    generalize r / 2 ^ 5 = x5 at *; generalize r / 2 ^ 4 = x4 at *; generalize r / 2 ^ 3 = x3 at *
    generalize r / 2 ^ 2 = x2 at *; generalize r / 2 ^ 1 = x1 at *
    generalize n / 2 ^ 11 = y11 at *; generalize n / 2 ^ 10 = y10 at *; generalize n / 2 ^ 9 = y9 at *
    generalize n / 2 ^ 8 = y8 at *; generalize n / 2 ^ 7 = y7 at *; generalize n / 2 ^ 6 = y6 at *
    generalize n / 2 ^ 5 = y5 at *; generalize n / 2 ^ 4 = y4 at *; generalize n / 2 ^ 3 = y3 at *
    generalize n / 2 ^ 2 = y2 at *; generalize n / 2 ^ 1 = y1 at *
    simp only [Nat.div_one] at *
    clear hz hs hp this hr hn
    omega
  · simp only [par, if_neg w0, hp]
    clear hs hp hn
    interval_cases w
    all_goals
      simp only [Nat.reduceSub, Nat.reduceAdd, hz _ (show 12 ≤ 12 by decide), hz _ (show 12 ≤ 13 by decide),
        hz _ (show 12 ≤ 14 by decide), hz _ (show 12 ≤ 15 by decide), hz _ (show 12 ≤ 16 by decide),
        hz _ (show 12 ≤ 17 by decide), hz _ (show 12 ≤ 18 by decide), hz _ (show 12 ≤ 19 by decide),
        hz _ (show 12 ≤ 20 by decide), hz _ (show 12 ≤ 21 by decide), Nat.zero_mod, Nat.zero_add, Nat.add_zero]
      clear hz hr
      generalize r / 2 ^ 11 = x11 at *; generalize r / 2 ^ 10 = x10 at *; generalize r / 2 ^ 9 = x9 at *
      generalize r / 2 ^ 8 = x8 at *; generalize r / 2 ^ 7 = x7 at *; generalize r / 2 ^ 6 = x6 at *
      generalize r / 2 ^ 5 = x5 at *; generalize r / 2 ^ 4 = x4 at *; generalize r / 2 ^ 3 = x3 at *
      generalize r / 2 ^ 2 = x2 at *; generalize r / 2 ^ 1 = x1 at *; generalize r / 2 ^ 0 = x0 at *
      generalize n / 2 ^ 11 = y11 at *; generalize n / 2 ^ 10 = y10 at *; generalize n / 2 ^ 9 = y9 at *
      generalize n / 2 ^ 8 = y8 at *; generalize n / 2 ^ 7 = y7 at *; generalize n / 2 ^ 6 = y6 at *
      generalize n / 2 ^ 5 = y5 at *; generalize n / 2 ^ 4 = y4 at *; generalize n / 2 ^ 3 = y3 at *
      generalize n / 2 ^ 2 = y2 at *; generalize n / 2 ^ 1 = y1 at *; generalize n / 2 ^ 0 = y0 at *
      omega

theorem ring_inj (n : ℕ) (hn : n < 4096) (n' : ℕ) (hn' : n' < 4096) (h : ring n = ring n') : n = n' := by
  refine Nat.eq_of_testBit_eq fun i => ?_
  by_cases hi : i < 12
  · rw [Nat.testBit_eq_decide_div_mod_eq, Nat.testBit_eq_decide_div_mod_eq]
    have e : i = 11 - (11 - i) := by omega
    rw [e, ← par_ring n hn (11 - i) (by omega), ← par_ring n' hn' (11 - i) (by omega), h]
  · have hp : 2 ^ 12 ≤ 2 ^ i := Nat.pow_le_pow_right (by decide : 0 < 2) (by omega)
    rw [Nat.testBit_lt_two_pow (by omega), Nat.testBit_lt_two_pow (by omega)]

/-- A signed sum over the bits after the ring is the same sum over the parities before it. -/
theorem sum_ring (w : ℕ) (hw : w < 12) (p : ℕ → ℝ) :
    ∑ n ∈ range 4096, (1 - 2 * ((n / 2 ^ (11 - w) % 2 : ℕ) : ℝ)) * p (ring n)
      = ∑ m ∈ range 4096, (1 - 2 * ((par w m : ℕ) : ℝ)) * p m := by
  have him : (range 4096).image ring = range 4096 := by
    refine eq_of_subset_of_card_le (fun m hm => ?_) ?_
    · obtain ⟨n, hn, rfl⟩ := mem_image.mp hm
      exact mem_range.mpr (ring_lt (mem_range.mp hn))
    · rw [card_image_of_injOn]
      exact fun n hn n' hn' h => ring_inj n (mem_range.mp hn) n' (mem_range.mp hn') h
  have hi : ∑ m ∈ (range 4096).image ring, (1 - 2 * ((par w m : ℕ) : ℝ)) * p m
      = ∑ n ∈ range 4096, (1 - 2 * ((par w (ring n) : ℕ) : ℝ)) * p (ring n) :=
    sum_image fun n hn n' hn' h => ring_inj n (mem_range.mp hn) n' (mem_range.mp hn') h
  rw [him] at hi
  rw [hi]
  refine sum_congr rfl fun n hn => ?_
  rw [par_ring n (mem_range.mp hn) w hw]

/-! ## One gate at a time -/

/-- The state after `k` gates: the embedding's twelve, then each layer's twelve and its ring. -/
def trips (c s : ℕ → ℝ) : ℕ → ℕ → ℂ
  | 0 => start
  | k + 1 => fun n => gate (c k) (s k) (k % 12) (trips c s k) (if k % 12 = 11 ∧ 11 < k then ring n else n)

theorem trips_twelve (c s : ℕ → ℝ) (l : ℕ) (n : ℕ) : trips c s (12 * l + 12) n
    = gates (fun w => c (12 * l + w)) (fun w => s (12 * l + w)) (List.range 12) (trips c s (12 * l))
        (if 0 < l then ring n else n) := by
  have hmod : ∀ i < 12, (12 * l + i) % 12 = i := fun i hi => by omega
  have hstep : ∀ i < 11, trips c s (12 * l + i + 1)
      = gate (c (12 * l + i)) (s (12 * l + i)) i (trips c s (12 * l + i)) := fun i hi => by
    funext n
    show gate _ _ _ _ (if _ then _ else _) = _
    rw [hmod i (by omega), if_neg (by omega)]
  have hlast : trips c s (12 * l + 12) n
      = gate (c (12 * l + 11)) (s (12 * l + 11)) 11 (trips c s (12 * l + 11)) (if 0 < l then ring n else n) := by
    show gate _ _ _ _ (if _ then _ else _) = _
    rw [hmod 11 (by omega)]
    congr 1
    by_cases h : 0 < l
    · rw [if_pos h, if_pos ⟨rfl, by omega⟩]
    · rw [if_neg h, if_neg (by omega)]
  rw [hlast, hstep 10 (by omega), hstep 9 (by omega), hstep 8 (by omega), hstep 7 (by omega), hstep 6 (by omega),
    hstep 5 (by omega), hstep 4 (by omega), hstep 3 (by omega), hstep 2 (by omega), hstep 1 (by omega),
    show trips c s (12 * l + 1) = _ from hstep 0 (by omega)]
  rfl

/-- The state after the embedding and `l` layers, `c` and `s` numbering the embedding's angles and then each layer's. -/
def after (c s : ℕ → ℝ) : ℕ → ℕ → ℂ
  | 0 => gates c s (List.range 12) start
  | l + 1 => layer (fun w => c (12 * l + 12 + w)) (fun w => s (12 * l + 12 + w)) (after c s l)

theorem trips_after (c s : ℕ → ℝ) : ∀ l, trips c s (12 * l + 12) = after c s l
  | 0 => by
    funext n
    rw [trips_twelve, if_neg (by omega)]
    simp only [Nat.mul_zero, Nat.zero_add]
    rfl
  | l + 1 => by
    funext n
    rw [trips_twelve, if_pos (by omega), show 12 * (l + 1) = 12 * l + 12 by ring, trips_after c s l]
    rfl

/-- What the six low gates and the matrix make of the state before the last layer: the state after all gates, up to the
    last ring and a phase. -/
def last (c s : ℕ → ℝ) (ψ : ℕ → ℂ) : ℕ → ℂ := block (amp c s) (gates c s [6, 7, 8, 9, 10, 11] ψ)

theorem normSq_layer (c s : ℕ → ℝ) (ψ : ℕ → ℂ) (n : ℕ) (hn : n < 4096) :
    normSq (layer c s ψ n) = normSq (last c s ψ (ring n)) := by
  rw [layer, gates_twelve c s ψ _ (ring_lt hn), normSq_phase, last]

end Cert.Circuit

end
-- ==== Proof.Words.lean ====
/- Words of the kernel and of the reference on small naturals, sums of reals among the extended reals, and what the circuit
   measures. -/
module

public import proofs.«01_k».proof.Proof.Circuit
public import Idealize.ShloMosaic.PureOps
public import Idealize.ShloMosaic.Lib.Pipeline.Value
public import Idealize.ShloMosaic.Lib.Pointwise
public import Idealize.ShloMosaic.Lib.IdealHost
public import Idealize.ShloMosaic.PureOps.Ideal.Laws
public import Mathlib.Data.EReal.Operations

@[expose] public section

noncomputable section

namespace Cert.Words

open Idealize.ShloMosaic Cert.Circuit

theorem word_xor {i k : ℕ} (hi : i < 4096) (hk : k < 4096) :
    IntOp.xori (BitVec.ofNat 32 i) (BitVec.ofNat 32 k) = BitVec.ofNat 32 (i ^^^ k) := by
  have h : i ^^^ k < 4096 := Nat.xor_lt_two_pow (n := 12) hi hk
  apply BitVec.eq_of_toNat_eq
  show (BitVec.ofNat 32 i ^^^ BitVec.ofNat 32 k).toNat = _
  rw [BitVec.toNat_xor, BitVec.toNat_ofNat, BitVec.toNat_ofNat, BitVec.toNat_ofNat, Nat.mod_eq_of_lt (by omega),
    Nat.mod_eq_of_lt (by omega), Nat.mod_eq_of_lt (by omega)]

theorem word_shift (u : ArithUnit) {n s : ℕ} (hn : n < 4096) (hs : s < 32) :
    IntOp.shrsi u (BitVec.ofNat 32 n) (BitVec.ofNat 32 s) = BitVec.ofNat 32 (n / 2 ^ s) := by
  have hs' : (BitVec.ofNat 32 s).toNat = s := by rw [BitVec.toNat_ofNat, Nat.mod_eq_of_lt (by omega)]
  have hm : (BitVec.ofNat 32 n).msb = false := by
    rw [BitVec.msb_eq_false_iff_two_mul_lt, BitVec.toNat_ofNat, Nat.mod_eq_of_lt (by omega)]; omega
  have hd : n / 2 ^ s ≤ n := Nat.div_le_self _ _
  unfold IntOp.shrsi
  rw [if_pos (by omega), BitVec.sshiftRight_eq', hs', BitVec.sshiftRight_eq_of_msb_false hm]
  apply BitVec.eq_of_toNat_eq
  rw [BitVec.toNat_ushiftRight, Nat.shiftRight_eq_div_pow, BitVec.toNat_ofNat, BitVec.toNat_ofNat,
    Nat.mod_eq_of_lt (by omega), Nat.mod_eq_of_lt (by omega)]

theorem word_and_one {p : ℕ} (hp : p < 4096) : IntOp.andi (BitVec.ofNat 32 p) 1#32 = BitVec.ofNat 32 (p % 2) := by
  apply BitVec.eq_of_toNat_eq
  show (BitVec.ofNat 32 p &&& 1#32).toNat = _
  rw [BitVec.toNat_and]
  simp only [BitVec.toNat_ofNat]
  show (p % 2 ^ 32) &&& 1 = p % 2 % 2 ^ 32
  rw [Nat.mod_eq_of_lt (show p < 2 ^ 32 by omega), Nat.and_one_is_mod, Nat.mod_eq_of_lt (show p % 2 < 2 ^ 32 by omega)]

theorem word_one_shifted {t : ℕ} (ht : t < 12) : IntOp.shli .host 1#32 (BitVec.ofNat 32 t) = BitVec.ofNat 32 (2 ^ t) := by
  interval_cases t <;> rfl

theorem word_zero_shifted {t : ℕ} (ht : t < 12) : IntOp.shli .host 0#32 (BitVec.ofNat 32 t) = 0#32 := by
  interval_cases t <;> rfl

/-- One CNOT's step of the reference's ring. -/
theorem word_cx {n w : ℕ} (hn : n < 4096) : IntOp.xori (BitVec.ofNat 32 n) (IntOp.shli .host
    (IntOp.andi (IntOp.shrsi .host (BitVec.ofNat 32 n) (BitVec.ofNat 32 (11 - w))) 1#32) (BitVec.ofNat 32 (11 - (w + 1) % 12)))
      = BitVec.ofNat 32 (cx w n) := by
  have ht : 11 - (w + 1) % 12 < 12 := by omega
  have hp : 2 ^ (11 - (w + 1) % 12) < 4096 := (Nat.pow_lt_pow_right (by decide) ht : _ < 2 ^ 12)
  rw [word_shift _ hn (by omega), word_and_one (lt_of_le_of_lt (Nat.div_le_self _ _) hn), cx]
  rcases Nat.mod_two_eq_zero_or_one (n / 2 ^ (11 - w)) with h | h
  · rw [h, if_neg (by decide), word_zero_shifted ht]
    exact BitVec.xor_zero
  · rw [h, if_pos rfl, word_one_shifted ht, word_xor hn hp]

theorem high_bits {n : ℕ} (hn : n < 4096) : (List.map (fun i => n / 2 ^ i % 2) (List.map (fun i => 12 + i) (List.range 20))).sum = 0 := by
  refine List.sum_eq_zero fun x hx => ?_
  simp only [List.map_map, List.mem_map, Function.comp] at hx
  obtain ⟨i, -, rfl⟩ := hx
  have h : n / 2 ^ (12 + i) = 0 := Nat.div_eq_of_lt (lt_of_lt_of_le hn
    (Nat.pow_le_pow_right (show 0 < 2 by decide) (Nat.le_add_right 12 i) : 2 ^ 12 ≤ 2 ^ (12 + i)))
  rw [h, Nat.zero_mod]

theorem low_bits (n : ℕ) : (List.map (fun i => n / 2 ^ i % 2) (List.range 12)).sum = pc12 n := by
  rw [show List.range 12 = [0, 1, 2, 3, 4, 5, 6, 7, 8, 9, 10, 11] from rfl]
  simp only [pc12, pc, List.map_cons, List.map_nil, List.sum_cons, List.sum_nil, Nat.div_div_eq_div_mul, Nat.reducePow,
    Nat.reduceMul, Nat.div_one, Nat.add_zero]
  ring

theorem bits_sum {n : ℕ} (hn : n < 4096) : (List.map (fun i => n / 2 ^ i % 2) (List.range 32)).sum = pc12 n := by
  rw [show List.range 32 = List.range (12 + 20) from rfl, List.range_add,
    List.map_append, List.sum_append, high_bits hn, low_bits, Nat.add_zero]

theorem half_bits : Ideal.ofBits .f32 0x3F000000#32 = ((1 / 2 : ℝ) : EReal) := by
  simp [Ideal.ofBits, Ideal.ieee, -EReal.coe_mul]; norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Words

namespace Cert.Circuit

open Idealize.ShloMosaic

/-- What the circuit measures on wire `w` of a state before its last ring. -/
def measured (ψ : ℕ → ℂ) (w : ℕ) : ℝ := ∑ n ∈ Finset.range 4096, (1 - 2 * ((par w n : ℕ) : ℝ)) * Complex.normSq (ψ n)

/-- Measured before the last ring or after it, a wire shows the same. -/
theorem measured_last (c s : ℕ → ℝ) (ψ : ℕ → ℂ) (w : ℕ) (hw : w < 12) : ∑ n ∈ Finset.range 4096,
    (1 - 2 * ((n / 2 ^ (11 - w) % 2 : ℕ) : ℝ)) * Complex.normSq (layer c s ψ n) = measured (last c s ψ) w := by
  rw [measured, ← sum_ring w hw fun m => Complex.normSq (last c s ψ m)]
  refine Finset.sum_congr rfl fun n hn => ?_
  rw [normSq_layer c s ψ n (Finset.mem_range.mp hn)]

/-- The cosine each gate takes of its angle. -/
def cosines (θ : ℕ → ℝ) (g : ℕ) : ℝ := Real.cos (θ g / 2)
/-- The sine each gate takes of its angle. -/
def sines (θ : ℕ → ℝ) (g : ℕ) : ℝ := Real.sin (θ g / 2)

/-- What the whole circuit measures on wire `w`, `θ` numbering the embedding's angles and then each layer's. -/
def observed (θ : ℕ → ℝ) (w : ℕ) : ℝ := measured (last (fun v => cosines θ (12 * 5 + 12 + v)) (fun v => sines θ (12 * 5 + 12 + v))
  (after (cosines θ) (sines θ) 5)) w

/-- A sample's angles: its twelve inputs, then the layers' in order. -/
def angles (x : FVec Ideal ⟨2, ![512, 12]⟩ .f32) (q : FVec Ideal ⟨2, ![6, 12]⟩ .f32) (b : Fin 512) (g : ℕ) : ℝ :=
  if h : g < 12 then (x (ix2 b ⟨g, h⟩) : EReal).toReal
  else if h : g - 12 < 72 then (q (ix2 ⟨(g - 12) / 12, by omega⟩ ⟨(g - 12) % 12, by omega⟩) : EReal).toReal else 0

theorem angles_input (x : FVec Ideal ⟨2, ![512, 12]⟩ .f32) (q : FVec Ideal ⟨2, ![6, 12]⟩ .f32) (b : Fin 512) (w : Fin 12) :
    angles x q b w.val = (x (ix2 b w) : EReal).toReal := by
  unfold angles
  rw [dif_pos w.isLt]

theorem angles_layer (x : FVec Ideal ⟨2, ![512, 12]⟩ .f32) (q : FVec Ideal ⟨2, ![6, 12]⟩ .f32) (b : Fin 512) (l : Fin 6)
    (w : Fin 12) : angles x q b (12 * l.val + 12 + w.val) = (q (ix2 l w) : EReal).toReal := by
  have hl := l.isLt
  have hw := w.isLt
  unfold angles
  rw [dif_neg (by omega), dif_pos (by omega)]
  exact congrArg (fun i => (q i : EReal).toReal) (congrArg₂ ix2
    (Fin.ext (by show (12 * l.val + 12 + w.val - 12) / 12 = l.val; omega))
    (Fin.ext (by show (12 * l.val + 12 + w.val - 12) % 12 = w.val; omega)))

/-- Every element is a real number. -/
def AllReal {n k : ℕ} (x : FVec Ideal ⟨2, ![n, k]⟩ .f32) : Prop :=
  ∀ (i : Fin n) (j : Fin k), (x (ix2 i j) : EReal) ≠ ⊤ ∧ (x (ix2 i j) : EReal) ≠ ⊥

theorem AllReal.eq {n k : ℕ} {x : FVec Ideal ⟨2, ![n, k]⟩ .f32} (h : AllReal x) (i : Fin n) (j : Fin k) :
    (x (ix2 i j) : EReal) = (((x (ix2 i j) : EReal).toReal : ℝ) : EReal) :=
  (EReal.coe_toReal (h i j).1 (h i j).2).symm

/-- The linear map at output `o`, of the twelve observables `z`. -/
def linear (W : FVec Ideal ⟨2, ![64, 12]⟩ .f32) (b : FVec Ideal ⟨1, ![64]⟩ .f32) (z : ℕ → ℝ) (o : Fin 64) : EReal :=
  ∑ w : Fin 12, (W (ix2 o w) : EReal) * ((z w.val : ℝ) : EReal) + b (ix1 o)

/-- The result at output `o` of sample `j`. -/
def value (x : FVec Ideal ⟨2, ![512, 12]⟩ .f32) (q : FVec Ideal ⟨2, ![6, 12]⟩ .f32) (W : FVec Ideal ⟨2, ![64, 12]⟩ .f32)
    (b : FVec Ideal ⟨1, ![64]⟩ .f32) (o : Fin 64) (j : Fin 512) : EReal :=
  linear W b (observed (angles x q j)) o

end Cert.Circuit

end
-- ==== Proof.Finite.lean ====
/- The precondition read: every input angle and every gate's angle is a real number. -/
module

public import proofs.«01_k».proof.Proof.Words
public import proofs.«01_k».proof.Proof.Gen.Pre_finite_angles
public import Idealize.ShloMosaic.Lib.Pointwise
public import Idealize.ShloMosaic.Lib.IdealHost
public import Idealize.ShloMosaic.Lib.KernelVsHost
public import Idealize.ShloMosaic.Lib.Pipeline.Value
public import Mathlib.Tactic.Tauto

@[expose] public section

noncomputable section

namespace Cert.Pre_finite_angles.Reading

open Cert.Pre_finite_angles Cert.Pre_finite_angles.Gen Idealize.ShloMosaic

theorem finite_of_lt (v : Ideal .f32)
    (h : FloatOps.cmpf .olt (FloatOps.hostAbsf v) (FloatOps.ofBits (F := Ideal) .f32 0x7F800000#32) = 1#1) :
    (v : EReal) ≠ ⊤ ∧ (v : EReal) ≠ ⊥ := by
  rw [← Ideal.xori_weird_eq_hostAbsf_olt_inf] at h
  have h' : IntOp.xori (BitVec.ofBool (decide ((v : EReal) = ⊤ ∨ (v : EReal) = ⊥))) 1#1 = 1#1 := h
  by_contra hc
  rw [decide_eq_true (by tauto)] at h'
  exact absurd h' (by decide)

variable (X : FVec Ideal S512x12 .f32) (Q : FVec Ideal S6x12 .f32) (W : FVec Ideal S64x12 .f32) (B : FVec Ideal S64 .f32)
  (h : Cert.Pre_finite_angles.fn (F := Ideal) X Q W B = fun _ => 1#1)

include h in
theorem inputs_finite : Cert.Circuit.AllReal X := by
  intro b w
  have e := congrFun h (ix2 (⟨b.val, by omega⟩ : Fin 518) w)
  unfold Cert.Pre_finite_angles.fn at e
  dsimp only at e
  refine finite_of_lt _ ((concatenate_pair_apply_left (t := S518x12) (s₁ := S512x12) (s₂ := S6x12) (0 : Fin 2) _ _ _ _ rfl (ix2 b w) (fun a => ?_)).symm.trans e)
  match a with
  | ⟨0, _⟩ => rfl
  | ⟨1, _⟩ => rfl

include h in
theorem weights_finite : Cert.Circuit.AllReal Q := by
  intro l w
  have e := congrFun h (ix2 (⟨l.val + 512, by omega⟩ : Fin 518) w)
  unfold Cert.Pre_finite_angles.fn at e
  dsimp only at e
  refine finite_of_lt _ ((concatenate_pair_apply_right (t := S518x12) (s₁ := S512x12) (s₂ := S6x12) (0 : Fin 2) _ _ _ _ rfl rfl (ix2 l w) (fun a ha => ?_) ?_).symm.trans e)
  · match a, ha with
    | ⟨0, _⟩, ha => exact (ha rfl).elim
    | ⟨1, _⟩, _ => rfl
  · rfl

end Cert.Pre_finite_angles.Reading

end
-- ==== Proof.RefStep.lean ====
/- The reference's loop, one gate per iteration, read as `Circuit.trips`. -/
module

public import proofs.«01_k».proof.Proof.Words
public import proofs.«01_k».proof.Proof.Gen.ReferenceIdeal.Run
public import Idealize.ShloMosaic.Lib.Routing.Ops
public import Idealize.ShloMosaic.Lib.Pointwise
public import Idealize.ShloMosaic.Lib.IdealHost
public import Idealize.ShloMosaic.Lib.Claim
public import Idealize.ShloMosaic.Lib.Pipeline.Value

@[expose] public section

set_option maxRecDepth 8192
set_option maxHeartbeats 2000000

noncomputable section

namespace Cert.ReferenceIdeal.Gates

open Cert.ReferenceIdeal Cert.ReferenceIdeal.Gen Cert.ReferenceIdeal.Value Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

/-! ## The loop counter's words -/

theorem counter_rem {k : ℕ} (hk : k < 84) : IntOp.remsi .host (BitVec.ofNat 32 k) 12#32 = BitVec.ofNat 32 (k % 12) := by
  interval_cases k <;> rfl

theorem counter_nonneg {k : ℕ} (hk : k < 84) {α : Type} (x y : α) :
    Scalar.select (IntOp.cmpi .slt (BitVec.ofNat 32 k) 0#32) x y = y := by
  interval_cases k <;> rfl

theorem counter_toInt {k : ℕ} (hk : k < 84) : (BitVec.ofNat 32 k).toInt = (k : ℤ) := by
  interval_cases k <;> rfl

theorem counter_bit {k : ℕ} (hk : k < 84) : IntOp.shli .host 1#32 (IntOp.subi 11#32 (BitVec.ofNat 32 (k % 12)))
    = BitVec.ofNat 32 (2 ^ (11 - k % 12)) := by
  interval_cases k <;> rfl

theorem counter_ends {k : ℕ} (hk : k < 84) {α : Type} (x y : α) :
    Scalar.select (IntOp.andi (IntOp.cmpi .ne (IntOp.cmpi .eq (BitVec.ofNat 32 (k % 12)) 11#32) 0#1)
      (IntOp.cmpi .ne (IntOp.cmpi .sgt (BitVec.ofNat 32 k) 11#32) 0#1)) x y
        = if k % 12 = 11 ∧ 11 < k then x else y := by
  interval_cases k <;> rfl

/-- A row number is not negative, so no wrap is added to it. -/
theorem wrap (r : Fin 4096) : Scalar.select (IntOp.cmpi .slt (BitVec.ofNat 32 r.val) 0#32)
    (IntOp.addi (BitVec.ofNat 32 r.val) 4096#32) (BitVec.ofNat 32 r.val) = BitVec.ofNat 32 r.val := by
  have hr := r.isLt
  have h : (BitVec.ofNat 32 r.val).slt (BitVec.ofNat 32 0) = decide (r.val < 0) := by
    rw [BitVec.slt_eq_decide, BitVec.toInt_eq_toNat_cond, BitVec.toNat_ofNat, Nat.mod_eq_of_lt (show r.val < 2 ^ 32 by omega),
      if_pos (by omega)]
    exact decide_eq_decide.mpr (by show (r.val : ℤ) < 0 ↔ r.val < 0; omega)
  show Scalar.select (BitVec.ofBool ((BitVec.ofNat 32 r.val).slt (BitVec.ofNat 32 0))) _ _ = _
  rw [h, decide_eq_false (by omega)]
  rfl

/-! ## Gathers of rows -/

theorem wrapped (v : IVec S4096 32) (r : Fin 4096) (n : Fin 4096) (hv : v (ix1 n) = BitVec.ofNat 32 r.val) :
    broadcastInDim S4096x1 ![0] bcast_S4096_S4096x1_0
      (select (cmpi .slt v (broadcastInDim S4096 ![] bcast_S_S4096 (constantI S_ 32 0#32)))
        (addi v (broadcastInDim S4096 ![] bcast_S_S4096 (constantI S_ 32 4096#32))) v) (ix2 n (0 : Fin 1))
      = BitVec.ofNat 32 r.val := by
  pointwise []
  rw [hv]
  exact wrap r

theorem rows (x : FVec Ideal S4096x512 .f32) (v : IVec S4096 32) (r : Fin 4096) (n : Fin 4096) (b : Fin 512)
    (hv : v (ix1 n) = BitVec.ofNat 32 r.val) :
    Host.gather gather_S4096x512_S4096x1_S4096x512_1_0_n_n_0_1_1512 x
      (broadcastInDim S4096x1 ![0] bcast_S4096_S4096x1_0
        (select (cmpi .slt v (broadcastInDim S4096 ![] bcast_S_S4096 (constantI S_ 32 0#32)))
          (addi v (broadcastInDim S4096 ![] bcast_S_S4096 (constantI S_ 32 4096#32))) v)) (ix2 n b)
      = x (ix2 r b) :=
  Idealize.ShloMosaic.Routing.gather_row _ rfl rfl rfl rfl rfl x _ n b r (wrapped v r n hv) (by decide)

/-! ## One iteration -/

/-- What the loop's carried values hold after `k` gates. -/
structure Holds (V0 : Valuation τ sig (Elt Ideal)) (k : ℕ) (C S : Fin 512 → ℕ → ℝ) : Prop where
  ctr : (V0 (Proc.devRef .tc main_v101_5) : IVec S_ 32) = fun _ => BitVec.ofNat 32 k
  cos : ∀ (g : Fin 84) (b : Fin 512), (V0 (Proc.devRef .tc main_v101_0) : FVec Ideal S84x512 .f32) (ix2 g b) = ((C b g.val : ℝ) : EReal)
  sin : ∀ (g : Fin 84) (b : Fin 512), (V0 (Proc.devRef .tc main_v101_1) : FVec Ideal S84x512 .f32) (ix2 g b) = ((S b g.val : ℝ) : EReal)
  idx : ∀ n : Fin 4096, (V0 (Proc.devRef .tc main_v101_2) : IVec S4096 32) (ix1 n) = BitVec.ofNat 32 n.val
  ring : ∀ n : Fin 4096, (V0 (Proc.devRef .tc main_v101_3) : IVec S4096 32) (ix1 n) = BitVec.ofNat 32 (Circuit.ring n.val)
  re : ∀ (n : Fin 4096) (b : Fin 512), (V0 (Proc.devRef .tc main_v101_6) : FVec Ideal S4096x512 .f32) (ix2 n b)
    = (((Circuit.trips (C b) (S b) k n.val).re : ℝ) : EReal)
  im : ∀ (n : Fin 4096) (b : Fin 512), (V0 (Proc.devRef .tc main_v101_7) : FVec Ideal S4096x512 .f32) (ix2 n b)
    = (((Circuit.trips (C b) (S b) k n.val).im : ℝ) : EReal)

variable {V0 : Valuation τ sig (Elt Ideal)} {k : ℕ} {C S : Fin 512 → ℕ → ℝ}

theorem picked (t : FVec Ideal S84x512 .f32) (start : Fin 2 → ℤ) (hf) (hk : k < 84) (h0 : start 0 = (k : ℤ)) (h1 : start 1 = 0)
    (b : Fin 512) : Host.dynamicSlice S1x512 t start hf (ix2 (0 : Fin 1) b) = t (ix2 (⟨k, hk⟩ : Fin 84) b) := by
  rw [Host.dynamicSlice_apply]
  refine congrArg t (funext fun a => Fin.ext ?_)
  match a with
  | ⟨0, _⟩ =>
    show (min (max (start 0) 0) ((84 - 1 : ℕ) : ℤ)).toNat + 0 = k
    rw [h0]; omega
  | ⟨1, _⟩ =>
    show (min (max (start 1) 0) ((512 - 512 : ℕ) : ℤ)).toNat + b.val = b.val
    rw [h1]; omega

theorem cos_row (h : Holds V0 k C S) (hk : k < 84) (b : Fin 512) :
    (res_main_while0b_v128 V0 : FVec Ideal S1x512 .f32) (ix2 (0 : Fin 1) b) = ((C b k : ℝ) : EReal) := by
  unfold res_main_while0b_v128
  rw [h.ctr]
  refine (picked _ _ _ hk ?_ ?_ b).trans (h.cos ⟨k, hk⟩ b)
  · show (Scalar.select (IntOp.cmpi .slt (BitVec.ofNat 32 k) 0#32) _ (BitVec.ofNat 32 k)).toInt = (k : ℤ)
    rw [counter_nonneg hk, counter_toInt hk]
  · rfl

theorem sin_row (h : Holds V0 k C S) (hk : k < 84) (b : Fin 512) :
    (res_main_while0b_v133 V0 : FVec Ideal S1x512 .f32) (ix2 (0 : Fin 1) b) = ((S b k : ℝ) : EReal) := by
  unfold res_main_while0b_v133
  rw [h.ctr]
  refine (picked _ _ _ hk ?_ ?_ b).trans (h.sin ⟨k, hk⟩ b)
  · show (Scalar.select (IntOp.cmpi .slt (BitVec.ofNat 32 k) 0#32) _ (BitVec.ofNat 32 k)).toInt = (k : ℤ)
    rw [counter_nonneg hk, counter_toInt hk]
  · rfl

/-- The partner of index `n` under gate `k`. -/
def partner (k : ℕ) (n : Fin 4096) : Fin 4096 := ⟨n.val ^^^ 2 ^ (11 - k % 12), Circuit.flip_lt (by omega) n.isLt⟩

theorem partner_word (h : Holds V0 k C S) (hk : k < 84) (n : Fin 4096) :
    (res_main_while0b_v138 V0 : IVec S4096 32) (ix1 n) = BitVec.ofNat 32 (partner k n).val := by
  unfold res_main_while0b_v138 res_main_while0b_v123
  rw [h.ctr]
  show IntOp.xori ((V0 (Proc.devRef .tc main_v101_2) : IVec S4096 32) (ix1 n))
    (IntOp.shli .host 1#32 (IntOp.subi 11#32 (IntOp.remsi .host (BitVec.ofNat 32 k) 12#32))) = _
  have hp : 2 ^ (11 - k % 12) < 4096 := (Nat.pow_lt_pow_right (by decide) (by omega) : 2 ^ (11 - k % 12) < 2 ^ 12)
  rw [h.idx n, counter_rem hk, counter_bit hk, word_xor n.isLt hp, partner]

/-- Where index `n` is read from after gate `k`: through the ring when a layer ends. -/
def source (k : ℕ) (n : Fin 4096) : Fin 4096 := if k % 12 = 11 ∧ 11 < k then ⟨Circuit.ring n.val, Circuit.ring_lt n.isLt⟩ else n

theorem source_word (h : Holds V0 k C S) (hk : k < 84) (n : Fin 4096) :
    (res_main_while0b_v174 V0 : IVec S4096 32) (ix1 n) = BitVec.ofNat 32 (source k n).val := by
  unfold res_main_while0b_v174 res_main_while0b_v123
  rw [h.ctr]
  show Scalar.select (IntOp.andi
      (IntOp.cmpi .ne (IntOp.cmpi .eq (IntOp.remsi .host (BitVec.ofNat 32 k) 12#32) 11#32) 0#1)
      (IntOp.cmpi .ne (IntOp.cmpi .sgt (BitVec.ofNat 32 k) 11#32) 0#1))
    ((V0 (Proc.devRef .tc main_v101_3) : IVec S4096 32) (ix1 n)) ((V0 (Proc.devRef .tc main_v101_2) : IVec S4096 32) (ix1 n)) = _
  rw [h.ring n, h.idx n, counter_rem hk, counter_ends hk, source]
  split <;> rfl

theorem trips_source (c s : ℕ → ℝ) (n : Fin 4096) : Circuit.trips c s (k + 1) n.val
    = Circuit.gate (c k) (s k) (k % 12) (Circuit.trips c s k) (source k n).val := by
  rw [Circuit.trips, source]
  split <;> rfl

/-- One iteration applies one gate. -/
theorem step (h : Holds V0 k C S) (hk : k < 84) : Holds (STEP V0) (k + 1) C S where
  ctr := by
    rw [STEP_main_v101_5]
    unfold step_main_v101_5
    rw [h.ctr]
    funext i
    exact (BitVec.ofNat_add k 1).symm
  cos := by rw [STEP_main_v101_0]; exact h.cos
  sin := by rw [STEP_main_v101_1]; exact h.sin
  idx := by rw [STEP_main_v101_2]; exact h.idx
  ring := by rw [STEP_main_v101_3]; exact h.ring
  re := fun n b => by
    rw [STEP_main_v101_6]
    unfold step_main_v101_6
    dsimp only [id]
    refine (rows _ _ (source k n) n b (source_word h hk n)).trans ?_
    pointwise []
    rw [cos_row h hk, sin_row h hk, h.re, rows _ _ (partner k (source k n)) _ b (partner_word h hk _), h.im, trips_source]
    simp only [← EReal.coe_mul, ← EReal.coe_add]
    congr 1
    simp [Circuit.gate, partner]
  im := fun n b => by
    rw [STEP_main_v101_7]
    unfold step_main_v101_7
    dsimp only [id]
    refine (rows _ _ (source k n) n b (source_word h hk n)).trans ?_
    pointwise []
    rw [cos_row h hk, sin_row h hk, h.im, rows _ _ (partner k (source k n)) _ b (partner_word h hk _), h.re, trips_source]
    simp only [← EReal.coe_mul, ← EReal.coe_sub]
    congr 1
    simp [Circuit.gate, partner]

theorem steps (h : Holds V0 0 C S) : ∀ k, k ≤ 84 → Holds (STEP^[k] V0) k C S
  | 0, _ => h
  | k + 1, hk => by
    rw [Function.iterate_succ_apply']
    exact step (steps h k (by omega)) (by omega)

/-! ## What the loop starts from -/

theorem two_bits : Ideal.ofBits .f32 0x40000000#32 = ((2 : ℝ) : EReal) := by
  simp [Ideal.ofBits, Ideal.ieee, -EReal.coe_mul]; norm_num

theorem div_two (r : ℝ) : Ideal.div (r : EReal) ((2 : ℝ) : EReal) = ((r / 2 : ℝ) : EReal) := by
  unfold Ideal.div
  rw [if_neg (by exact_mod_cast (two_ne_zero : (2 : ℝ) ≠ 0))]
  exact (EReal.coe_div r 2).symm

theorem cos_half (t : FVec Ideal S84x512 .f32) (g : Fin 84) (b : Fin 512) (r : ℝ) (h : t (ix2 g b) = (r : EReal)) :
    Host.cos (Host.divf t (broadcastInDim S84x512 ![] bcast_S_S84x512 (constant S_ .f32 0x40000000#32))) (ix2 g b)
      = ((Real.cos (r / 2) : ℝ) : EReal) := by
  show Ideal.cos (Ideal.div (t (ix2 g b)) (Ideal.ofBits .f32 0x40000000#32)) = _
  rw [h, two_bits, div_two, Ideal.cos_coe]

theorem sin_half (t : FVec Ideal S84x512 .f32) (g : Fin 84) (b : Fin 512) (r : ℝ) (h : t (ix2 g b) = (r : EReal)) :
    Host.sin (Host.divf t (broadcastInDim S84x512 ![] bcast_S_S84x512 (constant S_ .f32 0x40000000#32))) (ix2 g b)
      = ((Real.sin (r / 2) : ℝ) : EReal) := by
  show Ideal.sin (Ideal.div (t (ix2 g b)) (Ideal.ofBits .f32 0x40000000#32)) = _
  rw [h, two_bits, div_two, Ideal.sin_coe]

/-- The inputs' angles over the layers'. -/
theorem joined (x1 : FVec Ideal S12x512 .f32) (x2 : FVec Ideal S72x512 .f32) (θ : Fin 512 → ℕ → ℝ)
    (h1 : ∀ (w : Fin 12) b, x1 (ix2 w b) = ((θ b w.val : ℝ) : EReal))
    (h2 : ∀ (k : Fin 72) b, x2 (ix2 k b) = ((θ b (12 + k.val) : ℝ) : EReal)) (g : Fin 84) (b : Fin 512) :
    concatenate S84x512 0 [⟨S12x512, x1⟩, ⟨S72x512, x2⟩] concatenates_S12x512_S72x512_S84x512_d0 (ix2 g b)
      = ((θ b g.val : ℝ) : EReal) := by
  have hg := g.isLt
  by_cases h : g.val < 12
  · refine (concatenate_pair_apply_left (0 : Fin 2) x1 x2 concatenates_S12x512_S72x512_S84x512_d0 (ix2 g b) rfl
      (ix2 (⟨g.val, h⟩ : Fin 12) b) (fun a => ?_)).trans (h1 ⟨g.val, h⟩ b)
    match a with
    | ⟨0, _⟩ => rfl
    | ⟨1, _⟩ => rfl
  · refine (concatenate_pair_apply_right (0 : Fin 2) x1 x2 concatenates_S12x512_S72x512_S84x512_d0 (ix2 g b) rfl rfl
      (ix2 (⟨g.val - 12, by omega⟩ : Fin 72) b) (fun a ha => ?_) ?_).trans ?_
    · match a, ha with
      | ⟨0, _⟩, ha => exact (ha rfl).elim
      | ⟨1, _⟩, _ => rfl
    · show g.val - 12 + 12 = g.val
      omega
    · rw [h2]
      show ((θ b (12 + (g.val - 12)) : ℝ) : EReal) = _
      rw [Nat.add_sub_of_le (by omega)]

theorem turned (x : FVec Ideal S512x12 .f32) (w : Fin 12) (b : Fin 512) :
    transpose S12x512 [1, 0] x transposes_S512x12_S12x512_1_0 (ix2 w b) = x (ix2 b w) := by
  pointwise []

theorem spread (q : FVec Ideal S6x12 .f32) (k : Fin 72) (b : Fin 512) :
    broadcastInDim S72x512 ![0, 1] bcast_S72x1_S72x512_0_1 (shapeCast S72x1 q shapeCasts_S6x12_S72x1) (ix2 k b)
      = q (ix2 (⟨k.val / 12, by omega⟩ : Fin 6) (⟨k.val % 12, by omega⟩ : Fin 12)) := by
  pointwise []
  try exact congrArg q (congrArg₂ ix2 (Fin.ext (by dsimp only; omega)) (Fin.ext (by dsimp only; omega)))

/-- A vector of index words, holding `f`. -/
def Words (v : IVec S4096 32) (f : ℕ → ℕ) : Prop :=
  (∀ n : Fin 4096, v (ix1 n) = BitVec.ofNat 32 (f n.val)) ∧ ∀ n, n < 4096 → f n < 4096

theorem ring_step (w : ℕ) {v : IVec S4096 32} {f : ℕ → ℕ} (h : Words v f) :
    Words (xori v (Host.shli (andi (Host.shrsi v (broadcastInDim S4096 ![] bcast_S_S4096 (constantI S_ 32 (BitVec.ofNat 32 (11 - w)))))
      (broadcastInDim S4096 ![] bcast_S_S4096 (constantI S_ 32 1#32)))
      (broadcastInDim S4096 ![] bcast_S_S4096 (constantI S_ 32 (BitVec.ofNat 32 (11 - (w + 1) % 12)))))) (fun n => Circuit.cx w (f n)) := by
  refine ⟨fun n => ?_, fun n hn => Circuit.cx_lt (h.2 n hn)⟩
  show IntOp.xori (v (ix1 n)) (IntOp.shli .host (IntOp.andi (IntOp.shrsi .host (v (ix1 n)) (BitVec.ofNat 32 (11 - w))) 1#32)
    (BitVec.ofNat 32 (11 - (w + 1) % 12))) = _
  rw [h.1 n, word_cx (h.2 _ n.isLt)]

variable (m : (ℓ : Loc nD τ sig) → Buf (Elt Ideal) ℓ) (c : Dev nD)

theorem entry_v1 : upto hostOps0 (launchContents m c) 4 (Proc.devRef .tc main_v1)
    = transpose S12x512 [1, 0] (m ((c.tc : Thread nD τ).loc main_arg0)) transposes_S512x12_S12x512_1_0 := by
  after_reads_simp <;> rfl

theorem entry_v3 : upto hostOps0 (launchContents m c) 4 (Proc.devRef .tc main_v3)
    = broadcastInDim S72x512 ![0, 1] bcast_S72x1_S72x512_0_1
        (shapeCast S72x1 (m ((c.tc : Thread nD τ).loc main_arg1) : FVec Ideal S6x12 .f32) shapeCasts_S6x12_S72x1) := by
  after_reads_simp <;> rfl

section Angles

variable (θ : Fin 512 → ℕ → ℝ)
  (hx : ∀ (b : Fin 512) (w : Fin 12), (m ((c.tc : Thread nD τ).loc main_arg0) : FVec Ideal S512x12 .f32) (ix2 b w) = ((θ b w.val : ℝ) : EReal))
  (hq : ∀ (b : Fin 512) (l : Fin 6) (w : Fin 12),
    (m ((c.tc : Thread nD τ).loc main_arg1) : FVec Ideal S6x12 .f32) (ix2 l w) = ((θ b (12 * l.val + 12 + w.val) : ℝ) : EReal))

include hx in
theorem left_angle (w : Fin 12) (b : Fin 512) : (upto hostOps0 (launchContents m c) 4 (Proc.devRef .tc main_v1) : FVec Ideal S12x512 .f32) (ix2 w b)
    = ((θ b w.val : ℝ) : EReal) := by
  rw [entry_v1]
  exact (turned _ w b).trans (hx b w)

include hq in
theorem right_angle (k : Fin 72) (b : Fin 512) : (upto hostOps0 (launchContents m c) 4 (Proc.devRef .tc main_v3) : FVec Ideal S72x512 .f32) (ix2 k b)
    = ((θ b (12 + k.val) : ℝ) : EReal) := by
  rw [entry_v3]
  refine ((spread _ k b).trans (hq b _ _)).trans ?_
  show ((θ b (12 * (k.val / 12) + 12 + k.val % 12) : ℝ) : EReal) = _
  rw [show 12 * (k.val / 12) + 12 + k.val % 12 = 12 + k.val by omega]

include hx hq in
theorem entry_cos (g : Fin 84) (b : Fin 512) :
    (entryContents preI m c (Proc.devRef .tc main_v101_0) : FVec Ideal S84x512 .f32) (ix2 g b) = ((Circuit.cosines (θ b) g.val : ℝ) : EReal) := by
  simp only [entryContents, afterL_cons, afterL_nil]
  after_reads_simp
  exact cos_half _ g b _ (joined _ _ θ (left_angle m c θ hx) (right_angle m c θ hq) g b)

include hx hq in
theorem entry_sin (g : Fin 84) (b : Fin 512) :
    (entryContents preI m c (Proc.devRef .tc main_v101_1) : FVec Ideal S84x512 .f32) (ix2 g b) = ((Circuit.sines (θ b) g.val : ℝ) : EReal) := by
  simp only [entryContents, afterL_cons, afterL_nil]
  after_reads_simp
  exact sin_half _ g b _ (joined _ _ θ (left_angle m c θ hx) (right_angle m c θ hq) g b)

theorem entry_idx (n : Fin 4096) : (entryContents preI m c (Proc.devRef .tc main_v101_2) : IVec S4096 32) (ix1 n) = BitVec.ofNat 32 n.val := by
  simp only [entryContents, afterL_cons, afterL_nil]
  after_reads_simp
  rfl

theorem entry_ring (n : Fin 4096) :
    (entryContents preI m c (Proc.devRef .tc main_v101_3) : IVec S4096 32) (ix1 n) = BitVec.ofNat 32 (Circuit.ring n.val) := by
  have h0 : Words (iotaInDim S4096 32 0) id := ⟨fun n => rfl, fun n hn => hn⟩
  have h := ring_step 0 <| ring_step 1 <| ring_step 2 <| ring_step 3 <| ring_step 4 <| ring_step 5 <| ring_step 6 <|
    ring_step 7 <| ring_step 8 <| ring_step 9 <| ring_step 10 <| ring_step 11 h0
  simp only [entryContents, afterL_cons, afterL_nil]
  after_reads_simp
  dsimp only [id]
  exact h.1 n

theorem entry_ctr : (entryContents preI m c (Proc.devRef .tc main_v101_5) : IVec S_ 32) = fun _ => BitVec.ofNat 32 0 := by
  simp only [entryContents, afterL_cons, afterL_nil]
  after_reads_simp
  rfl

theorem select_zero {n : ℕ} (hn : n < 4096) {α : Type} (x y : α) :
    Scalar.select (IntOp.cmpi .eq (BitVec.ofNat 32 n) 0#32) x y = if n = 0 then x else y := by
  by_cases h : n = 0
  · subst h; rfl
  · rw [if_neg h]
    have e : (BitVec.ofNat 32 n == 0#32) = false := by
      rw [beq_eq_false_iff_ne]
      intro he
      have ht := congrArg BitVec.toNat he
      rw [BitVec.toNat_ofNat, Nat.mod_eq_of_lt (show n < 2 ^ 32 by omega)] at ht
      exact h ht
    show Scalar.select (BitVec.ofBool (BitVec.ofNat 32 n == 0#32)) x y = y
    rw [e]
    rfl

theorem entry_re (n : Fin 4096) (b : Fin 512) : (entryContents preI m c (Proc.devRef .tc main_v101_6) : FVec Ideal S4096x512 .f32) (ix2 n b)
    = (((Circuit.start n.val).re : ℝ) : EReal) := by
  simp only [entryContents, afterL_cons, afterL_nil]
  after_reads_simp
  show Scalar.select (IntOp.cmpi .eq (BitVec.ofNat 32 n.val) 0#32) (Ideal.ofBits .f32 0x3F800000#32) (Ideal.ofBits .f32 0x00000000#32) = _
  rw [select_zero n.isLt, Ideal.ofBits_one_f32, Ideal.ofBits_zero_f32, Circuit.start]
  split <;> simp

theorem entry_im (n : Fin 4096) (b : Fin 512) : (entryContents preI m c (Proc.devRef .tc main_v101_7) : FVec Ideal S4096x512 .f32) (ix2 n b)
    = (((Circuit.start n.val).im : ℝ) : EReal) := by
  simp only [entryContents, afterL_cons, afterL_nil]
  after_reads_simp
  show Ideal.ofBits .f32 0x00000000#32 = _
  rw [Ideal.ofBits_zero_f32, Circuit.start]
  split <;> simp

include hx hq in
theorem holds : Holds (entryContents preI m c) 0 (fun b => Circuit.cosines (θ b)) (fun b => Circuit.sines (θ b)) where
  ctr := entry_ctr m c
  cos := entry_cos m c θ hx hq
  sin := entry_sin m c θ hx hq
  idx := entry_idx m c
  ring := entry_ring m c
  re := entry_re m c
  im := entry_im m c

/-! ## What is measured -/

theorem sign_word {n w : ℕ} (hn : n < 4096) (hw : w < 12) : (FloatOps.sitofp (F := Ideal) .f32 (IntOp.subi 1#32 (IntOp.muli 2#32
    (IntOp.andi (IntOp.shrsi .host (BitVec.ofNat 32 n) (IntOp.subi 11#32 (BitVec.ofNat 32 w))) 1#32))) : EReal)
      = ((1 - 2 * ((n / 2 ^ (11 - w) % 2 : ℕ) : ℝ) : ℝ) : EReal) := by
  have hs : IntOp.subi 11#32 (BitVec.ofNat 32 w) = BitVec.ofNat 32 (11 - w) := by interval_cases w <;> rfl
  have e0 : (IntOp.subi 1#32 (IntOp.muli 2#32 (BitVec.ofNat 32 0))).toInt = 1 := rfl
  have e1 : (IntOp.subi 1#32 (IntOp.muli 2#32 (BitVec.ofNat 32 1))).toInt = -1 := rfl
  rw [hs, word_shift _ hn (by omega), word_and_one (lt_of_le_of_lt (Nat.div_le_self _ _) hn)]
  rcases Nat.mod_two_eq_zero_or_one (n / 2 ^ (11 - w)) with h | h
  · rw [h]
    show (((IntOp.subi 1#32 (IntOp.muli 2#32 (BitVec.ofNat 32 0))).toInt : ℝ) : EReal) = _
    rw [e0]
    norm_num
  · rw [h]
    show (((IntOp.subi 1#32 (IntOp.muli 2#32 (BitVec.ofNat 32 1))).toInt : ℝ) : EReal) = _
    rw [e1]
    norm_num

theorem observed_eq (a : ℕ → ℝ) {w : ℕ} (hw : w < 12) : Circuit.observed a w = ∑ n ∈ Finset.range 4096,
    (1 - 2 * ((n / 2 ^ (11 - w) % 2 : ℕ) : ℝ)) * Complex.normSq (Circuit.trips (Circuit.cosines a) (Circuit.sines a) 84 n) := by
  have h : Circuit.trips (Circuit.cosines a) (Circuit.sines a) 84 = Circuit.after (Circuit.cosines a) (Circuit.sines a) 6 :=
    Circuit.trips_after _ _ 6
  rw [h]
  exact (Circuit.measured_last _ _ _ w hw).symm

theorem out_apply {V0 : Valuation τ sig (Elt Ideal)} (h : Holds V0 84 (fun b => Circuit.cosines (θ b)) (fun b => Circuit.sines (θ b)))
    (o : Fin 64) (b : Fin 512) : (out_main_v121 V0 : FVec Ideal S64x512 .f32) (ix2 o b)
      = Circuit.linear (V0 (Proc.devRef .tc main_arg2)) (V0 (Proc.devRef .tc main_arg3)) (Circuit.observed (θ b)) o := by
  unfold Circuit.linear
  pointwise [out_main_v121]
  congr 1
  refine Finset.sum_congr rfl fun w _ => ?_
  congr 1
  rw [observed_eq _ w.isLt, Finset.sum_range, coe_sum]
  refine Finset.sum_congr rfl fun n _ => ?_
  rw [h.re, h.im, Complex.normSq_apply, EReal.coe_mul, ← sign_word n.isLt w.isLt, EReal.coe_add, EReal.coe_mul, EReal.coe_mul]

include hx hq in
theorem result_at (o : Fin 64) (b : Fin 512) : (out_main_v121 (STEP^[84] (entryContents preI m c)) : FVec Ideal S64x512 .f32) (ix2 o b)
    = Circuit.linear (m ((c.tc : Thread nD τ).loc main_arg2)) (m ((c.tc : Thread nD τ).loc main_arg3)) (Circuit.observed (θ b)) o := by
  rw [out_apply θ (steps (holds m c θ hx hq) 84 le_rfl), iter_main_arg2 m c, iter_main_arg3 m c]

end Angles

/-- The reference's result, at finite angles. -/
theorem result (hX : Circuit.AllReal (n := 512) (k := 12) (m ((c.tc : Thread nD τ).loc main_arg0)))
    (hQ : Circuit.AllReal (n := 6) (k := 12) (m ((c.tc : Thread nD τ).loc main_arg1))) :
    (out_main_v121 (STEP^[84] (entryContents preI m c)) : FVec Ideal S64x512 .f32)
      = fun i => Circuit.value (m ((c.tc : Thread nD τ).loc main_arg0)) (m ((c.tc : Thread nD τ).loc main_arg1))
          (m ((c.tc : Thread nD τ).loc main_arg2)) (m ((c.tc : Thread nD τ).loc main_arg3)) (i 0) (i 1) := by
  funext i
  obtain ⟨o, b, rfl⟩ : ∃ (o : Fin 64) (b : Fin 512), i = ix2 o b := ⟨i 0, i 1, eq_ix2 i⟩
  exact result_at m c (Circuit.angles (m ((c.tc : Thread nD τ).loc main_arg0)) (m ((c.tc : Thread nD τ).loc main_arg1)))
    (fun b w => by rw [Circuit.angles_input]; exact hX.eq b w)
    (fun b l w => by rw [Circuit.angles_layer]; exact hQ.eq l w) o b

end Cert.ReferenceIdeal.Gates

end
-- ==== Proof.KernelOps.lean ====
/- The kernel's own operations put together: each RX, CNOT, matrix step and layer as one function of the two state arrays
   (4096 amplitudes by 256 samples, real and imaginary part), and the whole body as one function `kern` of its four input
   blocks, at any float values. -/
module

public import proofs.«01_k».proof.Proof.Gen.KernelIdeal.Frame

@[expose] public section

noncomputable section

namespace Cert.KernelIdeal.Ops

open Cert.KernelIdeal Cert.KernelIdeal.Gen Idealize.ShloMosaic

variable {F : FTy → Type} [FloatOps F]

/-- One part of the state: 4096 rows of 256 samples. -/
abbrev St (F : FTy → Type) := FVec F S4096x256 .f32
/-- The same array with its rows in groups of eight. -/
abbrev St8 (F : FTy → Type) := FVec F S512x8x256 .f32

def to8 (a : St F) : St8 F := shapeCast S512x8x256 a shapeCasts_S4096x256_S512x8x256
def of8 (a : St8 F) : St F := shapeCast S4096x256 a shapeCasts_S512x8x256_S4096x256

/-! ## The rows with one bit flipped -/

/-- The rows with bit 5 flipped: the two halves of each run of 64 rows exchanged. -/
def flip5 (a : St F) : St F :=
  shapeCast S4096x256 (concatenate S64x2x32x256 1
    [⟨S64x1x32x256, extractStridedSlice S64x1x32x256 ![0, 1, 0, 0] (shapeCast S64x2x32x256 a shapeCasts_S4096x256_S64x2x32x256) slices_S64x2x32x256_o0_1_0_0_S64x1x32x256⟩,
     ⟨S64x1x32x256, extractStridedSlice S64x1x32x256 ![0, 0, 0, 0] (shapeCast S64x2x32x256 a shapeCasts_S4096x256_S64x2x32x256) slices_S64x2x32x256_o0_0_0_0_S64x1x32x256⟩]
    concatenates_S64x1x32x256_S64x1x32x256_S64x2x32x256_d1) shapeCasts_S64x2x32x256_S4096x256

/-- The rows with bit 4 flipped: the two halves of each run of 32 rows exchanged. -/
def flip4 (a : St F) : St F :=
  shapeCast S4096x256 (concatenate S128x2x16x256 1
    [⟨S128x1x16x256, extractStridedSlice S128x1x16x256 ![0, 1, 0, 0] (shapeCast S128x2x16x256 a shapeCasts_S4096x256_S128x2x16x256) slices_S128x2x16x256_o0_1_0_0_S128x1x16x256⟩,
     ⟨S128x1x16x256, extractStridedSlice S128x1x16x256 ![0, 0, 0, 0] (shapeCast S128x2x16x256 a shapeCasts_S4096x256_S128x2x16x256) slices_S128x2x16x256_o0_0_0_0_S128x1x16x256⟩]
    concatenates_S128x1x16x256_S128x1x16x256_S128x2x16x256_d1) shapeCasts_S128x2x16x256_S4096x256

/-- The rows with bit 3 flipped: the two halves of each run of 16 rows exchanged. -/
def flip3 (a : St F) : St F :=
  shapeCast S4096x256 (concatenate S256x2x8x256 1
    [⟨S256x1x8x256, extractStridedSlice S256x1x8x256 ![0, 1, 0, 0] (shapeCast S256x2x8x256 a shapeCasts_S4096x256_S256x2x8x256) slices_S256x2x8x256_o0_1_0_0_S256x1x8x256⟩,
     ⟨S256x1x8x256, extractStridedSlice S256x1x8x256 ![0, 0, 0, 0] (shapeCast S256x2x8x256 a shapeCasts_S4096x256_S256x2x8x256) slices_S256x2x8x256_o0_0_0_0_S256x1x8x256⟩]
    concatenates_S256x1x8x256_S256x1x8x256_S256x2x8x256_d1) shapeCasts_S256x2x8x256_S4096x256

/-- Rows rolled by four within each group of eight: bit 2 flipped. -/
def flip2 (a : St F) : St F :=
  of8 (concatenate S512x8x256 1
    [⟨S512x4x256, extractStridedSlice S512x4x256 ![0, 4, 0] (to8 a) slices_S512x8x256_o0_4_0_S512x4x256⟩,
     ⟨S512x4x256, extractStridedSlice S512x4x256 ![0, 0, 0] (to8 a) slices_S512x8x256_o0_0_0_S512x4x256⟩]
    concatenates_S512x4x256_S512x4x256_S512x8x256_d1)

/-- Where the row's place in its group of eight has the bit `k` (a weight) set. -/
def mask (k : BitVec 32) : IVec S1x8x256 1 :=
  cmpi .eq (andi (iota .tc S1x8x256 32 [1] iota_S1x8x256_d1_w32) (broadcast S1x8x256 k)) (broadcast S1x8x256 k)

/-- A mask at every group. -/
def wide (m : IVec S1x8x256 1) : IVec S512x8x256 1 :=
  broadcastTo S512x8x256 (shapeCast S1x8x256 m shapeCasts_S1x8x256_S1x8x256) broadcasts_S1x8x256_S512x8x256

/-- Rows rolled by two, one way or the other by the mask: bit 1 flipped. -/
def roll2 (a : St8 F) : St8 F :=
  select (wide (mask 2#32))
    (concatenate S512x8x256 1
      [⟨S512x2x256, extractStridedSlice S512x2x256 ![0, 6, 0] a slices_S512x8x256_o0_6_0_S512x2x256⟩,
       ⟨S512x6x256, extractStridedSlice S512x6x256 ![0, 0, 0] a slices_S512x8x256_o0_0_0_S512x6x256⟩]
      concatenates_S512x2x256_S512x6x256_S512x8x256_d1)
    (concatenate S512x8x256 1
      [⟨S512x6x256, extractStridedSlice S512x6x256 ![0, 2, 0] a slices_S512x8x256_o0_2_0_S512x6x256⟩,
       ⟨S512x2x256, extractStridedSlice S512x2x256 ![0, 0, 0] a slices_S512x8x256_o0_0_0_S512x2x256⟩]
      concatenates_S512x6x256_S512x2x256_S512x8x256_d1)

/-- Rows rolled by one, one way or the other by the mask: bit 0 flipped. -/
def roll1 (a : St8 F) : St8 F :=
  select (wide (mask 1#32))
    (concatenate S512x8x256 1
      [⟨S512x1x256, extractStridedSlice S512x1x256 ![0, 7, 0] a slices_S512x8x256_o0_7_0_S512x1x256⟩,
       ⟨S512x7x256, extractStridedSlice S512x7x256 ![0, 0, 0] a slices_S512x8x256_o0_0_0_S512x7x256⟩]
      concatenates_S512x1x256_S512x7x256_S512x8x256_d1)
    (concatenate S512x8x256 1
      [⟨S512x7x256, extractStridedSlice S512x7x256 ![0, 1, 0] a slices_S512x8x256_o0_1_0_S512x7x256⟩,
       ⟨S512x1x256, extractStridedSlice S512x1x256 ![0, 0, 0] a slices_S512x8x256_o0_0_0_S512x1x256⟩]
      concatenates_S512x7x256_S512x1x256_S512x8x256_d1)

def flip1 (a : St F) : St F := of8 (roll2 (to8 a))
def flip0 (a : St F) : St F := of8 (roll1 (to8 a))

/-! ## RX gates -/

/-- Entry `(l, w)` of a table of half angles' cosines or sines. -/
def ang (l w : ℕ) (h : S6x12.Slices ![l, w] S1x1) (t : FVec F S6x12 .f32) : F .f32 :=
  extractAt ![0, 0] (extractStridedSlice S1x1 ![l, w] t h) inpos_S1x1_p0_0

/-- The two parts of a state after an RX, `p` being the flip of the wire's bit. -/
def rx (p : St F → St F) (c s : F .f32) (a : St F × St F) : St F × St F :=
  (addf (mulf (broadcast S4096x256 c) a.1) (mulf (broadcast S4096x256 s) (p a.2)),
   subf (mulf (broadcast S4096x256 c) a.2) (mulf (broadcast S4096x256 s) (p a.1)))

theorem slices_one {l w : ℕ} (hl : l < 6) (hw : w < 12) : S6x12.Slices ![l, w] S1x1 :=
  (by decide : ∀ l < 6, ∀ w < 12, S6x12.Slices ![l, w] S1x1) l hl w hw

/-- RX on the six low wires of layer `l`. -/
def low (l : ℕ) (hl : l < 6) (cq sq : FVec F S6x12 .f32) (a : St F × St F) : St F × St F :=
  rx flip0 (ang l 11 (slices_one hl (by decide)) cq) (ang l 11 (slices_one hl (by decide)) sq) <|
  rx flip1 (ang l 10 (slices_one hl (by decide)) cq) (ang l 10 (slices_one hl (by decide)) sq) <|
  rx flip2 (ang l 9 (slices_one hl (by decide)) cq) (ang l 9 (slices_one hl (by decide)) sq) <|
  rx flip3 (ang l 8 (slices_one hl (by decide)) cq) (ang l 8 (slices_one hl (by decide)) sq) <|
  rx flip4 (ang l 7 (slices_one hl (by decide)) cq) (ang l 7 (slices_one hl (by decide)) sq) <|
  rx flip5 (ang l 6 (slices_one hl (by decide)) cq) (ang l 6 (slices_one hl (by decide)) sq) a

/-! ## The six high wires by one matrix -/

def rowI : IVec S64x64 32 := iota .tc S64x64 32 [0] iota_S64x64_d0_w32
def colI : IVec S64x64 32 := iota .tc S64x64 32 [1] iota_S64x64_d1_w32

/-- Where `row ^ column` has bit `k` set. -/
def differ (k : BitVec 32) : IVec S64x64 1 :=
  cmpi .eq (andi (shrsi (xori rowI colI) (broadcast S64x64 k)) (broadcast S64x64 1#32)) (broadcast S64x64 1#32)

/-- The matrix's sign. -/
def sgn : FVec F S64x64 .f32 :=
  select (cmpi .eq (andi (addi (ctpop colI) (ctpop (andi rowI colI))) (broadcast S64x64 1#32)) (broadcast S64x64 1#32))
    (broadcast S64x64 (Scalar.ofBits .f32 0xBF800000#32)) (broadcast S64x64 (Scalar.ofBits .f32 0x3F800000#32))

/-- One wire's part in the matrix: its sine where row and column differ in the wire's bit, else its cosine. -/
def part (l w : ℕ) (k : BitVec 32) (h : S6x12.Slices ![l, w] S1x1) (cq sq : FVec F S6x12 .f32) : FVec F S64x64 .f32 :=
  select (differ k) (broadcast S64x64 (ang l w h sq)) (broadcast S64x64 (ang l w h cq))

/-- The matrix of layer `l`. -/
def matrix (l : ℕ) (hl : l < 6) (cq sq : FVec F S6x12 .f32) : FVec F S64x64 .f32 :=
  mulf (mulf (mulf (mulf (mulf (mulf (mulf (broadcast S64x64 (Scalar.ofBits .f32 0x3F800000#32))
    (part l 0 5#32 (slices_one hl (by decide)) cq sq))
    (part l 1 4#32 (slices_one hl (by decide)) cq sq))
    (part l 2 3#32 (slices_one hl (by decide)) cq sq))
    (part l 3 2#32 (slices_one hl (by decide)) cq sq))
    (part l 4 1#32 (slices_one hl (by decide)) cq sq))
    (part l 5 0#32 (slices_one hl (by decide)) cq sq)) sgn

/-- The number of set bits among the top six bits of a row. -/
def count : IVec S512x8x256 32 :=
  ctpop (shrsi (iota .tc S512x8x256 32 [0] iota_S512x8x256_d0_w32) (broadcast S512x8x256 3#32))
def odd : IVec S512x8x256 1 := cmpi .eq (andi count (broadcast S512x8x256 1#32)) (broadcast S512x8x256 1#32)
def second : IVec S512x8x256 1 := cmpi .eq (andi count (broadcast S512x8x256 2#32)) (broadcast S512x8x256 2#32)
def pick (m : IVec S512x8x256 1) : St8 F :=
  select m (broadcast S512x8x256 (Scalar.ofBits .f32 0xBF800000#32)) (broadcast S512x8x256 (Scalar.ofBits .f32 0x3F800000#32))

/-- A multiplication by a power of the imaginary unit, `u` and `v` holding the signs of the two parts. -/
def turn (u v : St8 F) (a : St F × St F) : St F × St F :=
  (of8 (mulf (select odd (to8 a.2) (to8 a.1)) u), of8 (mulf (select odd (to8 a.1) (to8 a.2)) v))

def times (b : FVec F S64x64 .f32) (a : St F) : St F :=
  shapeCast S4096x256 (matmul dot_S64x64_S64x64x256_S64x64x256_1_0_0_12_n_n (some .fp32) b
    (shapeCast S64x64x256 a shapeCasts_S4096x256_S64x64x256) (constant S64x64x256 .f32 0x00000000#32))
    shapeCasts_S64x64x256_S4096x256

/-- The matrix applied to the state turned by each row's phase. -/
def high (l : ℕ) (hl : l < 6) (cq sq : FVec F S6x12 .f32) (a : St F × St F) : St F × St F :=
  (times (matrix l hl cq sq) (turn (pick (xori odd second)) (pick second) a).1,
   times (matrix l hl cq sq) (turn (pick (xori odd second)) (pick second) a).2)

/-! ## CNOTs -/

/-- CNOT from wire 0: of each four runs of 1024 rows the last two exchanged. -/
def cnot0 (a : St F) : St F :=
  shapeCast S4096x256 (concatenate S1x4x1024x256 1
    [⟨S1x2x1024x256, extractStridedSlice S1x2x1024x256 ![0, 0, 0, 0] (shapeCast S1x4x1024x256 a shapeCasts_S4096x256_S1x4x1024x256) slices_S1x4x1024x256_o0_0_0_0_S1x2x1024x256⟩,
     ⟨S1x1x1024x256, extractStridedSlice S1x1x1024x256 ![0, 3, 0, 0] (shapeCast S1x4x1024x256 a shapeCasts_S4096x256_S1x4x1024x256) slices_S1x4x1024x256_o0_3_0_0_S1x1x1024x256⟩,
     ⟨S1x1x1024x256, extractStridedSlice S1x1x1024x256 ![0, 2, 0, 0] (shapeCast S1x4x1024x256 a shapeCasts_S4096x256_S1x4x1024x256) slices_S1x4x1024x256_o0_2_0_0_S1x1x1024x256⟩]
    concatenates_S1x2x1024x256_S1x1x1024x256_S1x1x1024x256_S1x4x1024x256_d1) shapeCasts_S1x4x1024x256_S4096x256

/-- CNOT from wire 1: of each four runs of 512 rows the last two exchanged. -/
def cnot1 (a : St F) : St F :=
  shapeCast S4096x256 (concatenate S2x4x512x256 1
    [⟨S2x2x512x256, extractStridedSlice S2x2x512x256 ![0, 0, 0, 0] (shapeCast S2x4x512x256 a shapeCasts_S4096x256_S2x4x512x256) slices_S2x4x512x256_o0_0_0_0_S2x2x512x256⟩,
     ⟨S2x1x512x256, extractStridedSlice S2x1x512x256 ![0, 3, 0, 0] (shapeCast S2x4x512x256 a shapeCasts_S4096x256_S2x4x512x256) slices_S2x4x512x256_o0_3_0_0_S2x1x512x256⟩,
     ⟨S2x1x512x256, extractStridedSlice S2x1x512x256 ![0, 2, 0, 0] (shapeCast S2x4x512x256 a shapeCasts_S4096x256_S2x4x512x256) slices_S2x4x512x256_o0_2_0_0_S2x1x512x256⟩]
    concatenates_S2x2x512x256_S2x1x512x256_S2x1x512x256_S2x4x512x256_d1) shapeCasts_S2x4x512x256_S4096x256

/-- CNOT from wire 2: of each four runs of 256 rows the last two exchanged. -/
def cnot2 (a : St F) : St F :=
  shapeCast S4096x256 (concatenate S4x4x256x256 1
    [⟨S4x2x256x256, extractStridedSlice S4x2x256x256 ![0, 0, 0, 0] (shapeCast S4x4x256x256 a shapeCasts_S4096x256_S4x4x256x256) slices_S4x4x256x256_o0_0_0_0_S4x2x256x256⟩,
     ⟨S4x1x256x256, extractStridedSlice S4x1x256x256 ![0, 3, 0, 0] (shapeCast S4x4x256x256 a shapeCasts_S4096x256_S4x4x256x256) slices_S4x4x256x256_o0_3_0_0_S4x1x256x256⟩,
     ⟨S4x1x256x256, extractStridedSlice S4x1x256x256 ![0, 2, 0, 0] (shapeCast S4x4x256x256 a shapeCasts_S4096x256_S4x4x256x256) slices_S4x4x256x256_o0_2_0_0_S4x1x256x256⟩]
    concatenates_S4x2x256x256_S4x1x256x256_S4x1x256x256_S4x4x256x256_d1) shapeCasts_S4x4x256x256_S4096x256

/-- CNOT from wire 3: of each four runs of 128 rows the last two exchanged. -/
def cnot3 (a : St F) : St F :=
  shapeCast S4096x256 (concatenate S8x4x128x256 1
    [⟨S8x2x128x256, extractStridedSlice S8x2x128x256 ![0, 0, 0, 0] (shapeCast S8x4x128x256 a shapeCasts_S4096x256_S8x4x128x256) slices_S8x4x128x256_o0_0_0_0_S8x2x128x256⟩,
     ⟨S8x1x128x256, extractStridedSlice S8x1x128x256 ![0, 3, 0, 0] (shapeCast S8x4x128x256 a shapeCasts_S4096x256_S8x4x128x256) slices_S8x4x128x256_o0_3_0_0_S8x1x128x256⟩,
     ⟨S8x1x128x256, extractStridedSlice S8x1x128x256 ![0, 2, 0, 0] (shapeCast S8x4x128x256 a shapeCasts_S4096x256_S8x4x128x256) slices_S8x4x128x256_o0_2_0_0_S8x1x128x256⟩]
    concatenates_S8x2x128x256_S8x1x128x256_S8x1x128x256_S8x4x128x256_d1) shapeCasts_S8x4x128x256_S4096x256

/-- CNOT from wire 4: of each four runs of 64 rows the last two exchanged. -/
def cnot4 (a : St F) : St F :=
  shapeCast S4096x256 (concatenate S16x4x64x256 1
    [⟨S16x2x64x256, extractStridedSlice S16x2x64x256 ![0, 0, 0, 0] (shapeCast S16x4x64x256 a shapeCasts_S4096x256_S16x4x64x256) slices_S16x4x64x256_o0_0_0_0_S16x2x64x256⟩,
     ⟨S16x1x64x256, extractStridedSlice S16x1x64x256 ![0, 3, 0, 0] (shapeCast S16x4x64x256 a shapeCasts_S4096x256_S16x4x64x256) slices_S16x4x64x256_o0_3_0_0_S16x1x64x256⟩,
     ⟨S16x1x64x256, extractStridedSlice S16x1x64x256 ![0, 2, 0, 0] (shapeCast S16x4x64x256 a shapeCasts_S4096x256_S16x4x64x256) slices_S16x4x64x256_o0_2_0_0_S16x1x64x256⟩]
    concatenates_S16x2x64x256_S16x1x64x256_S16x1x64x256_S16x4x64x256_d1) shapeCasts_S16x4x64x256_S4096x256

/-- CNOT from wire 5: of each four runs of 32 rows the last two exchanged. -/
def cnot5 (a : St F) : St F :=
  shapeCast S4096x256 (concatenate S32x4x32x256 1
    [⟨S32x2x32x256, extractStridedSlice S32x2x32x256 ![0, 0, 0, 0] (shapeCast S32x4x32x256 a shapeCasts_S4096x256_S32x4x32x256) slices_S32x4x32x256_o0_0_0_0_S32x2x32x256⟩,
     ⟨S32x1x32x256, extractStridedSlice S32x1x32x256 ![0, 3, 0, 0] (shapeCast S32x4x32x256 a shapeCasts_S4096x256_S32x4x32x256) slices_S32x4x32x256_o0_3_0_0_S32x1x32x256⟩,
     ⟨S32x1x32x256, extractStridedSlice S32x1x32x256 ![0, 2, 0, 0] (shapeCast S32x4x32x256 a shapeCasts_S4096x256_S32x4x32x256) slices_S32x4x32x256_o0_2_0_0_S32x1x32x256⟩]
    concatenates_S32x2x32x256_S32x1x32x256_S32x1x32x256_S32x4x32x256_d1) shapeCasts_S32x4x32x256_S4096x256

/-- CNOT from wire 6: of each four runs of 16 rows the last two exchanged. -/
def cnot6 (a : St F) : St F :=
  shapeCast S4096x256 (concatenate S64x4x16x256 1
    [⟨S64x2x16x256, extractStridedSlice S64x2x16x256 ![0, 0, 0, 0] (shapeCast S64x4x16x256 a shapeCasts_S4096x256_S64x4x16x256) slices_S64x4x16x256_o0_0_0_0_S64x2x16x256⟩,
     ⟨S64x1x16x256, extractStridedSlice S64x1x16x256 ![0, 3, 0, 0] (shapeCast S64x4x16x256 a shapeCasts_S4096x256_S64x4x16x256) slices_S64x4x16x256_o0_3_0_0_S64x1x16x256⟩,
     ⟨S64x1x16x256, extractStridedSlice S64x1x16x256 ![0, 2, 0, 0] (shapeCast S64x4x16x256 a shapeCasts_S4096x256_S64x4x16x256) slices_S64x4x16x256_o0_2_0_0_S64x1x16x256⟩]
    concatenates_S64x2x16x256_S64x1x16x256_S64x1x16x256_S64x4x16x256_d1) shapeCasts_S64x4x16x256_S4096x256

/-- CNOT from wire 7: of each four runs of 8 rows the last two exchanged. -/
def cnot7 (a : St F) : St F :=
  shapeCast S4096x256 (concatenate S128x4x8x256 1
    [⟨S128x2x8x256, extractStridedSlice S128x2x8x256 ![0, 0, 0, 0] (shapeCast S128x4x8x256 a shapeCasts_S4096x256_S128x4x8x256) slices_S128x4x8x256_o0_0_0_0_S128x2x8x256⟩,
     ⟨S128x1x8x256, extractStridedSlice S128x1x8x256 ![0, 3, 0, 0] (shapeCast S128x4x8x256 a shapeCasts_S4096x256_S128x4x8x256) slices_S128x4x8x256_o0_3_0_0_S128x1x8x256⟩,
     ⟨S128x1x8x256, extractStridedSlice S128x1x8x256 ![0, 2, 0, 0] (shapeCast S128x4x8x256 a shapeCasts_S4096x256_S128x4x8x256) slices_S128x4x8x256_o0_2_0_0_S128x1x8x256⟩]
    concatenates_S128x2x8x256_S128x1x8x256_S128x1x8x256_S128x4x8x256_d1) shapeCasts_S128x4x8x256_S4096x256

/-- CNOT from wire 8: the odd groups of eight rolled by four. -/
def cnot8 (a : St F) : St F :=
  shapeCast S4096x256 (concatenate S256x2x8x256 1
    [⟨S256x1x8x256, extractStridedSlice S256x1x8x256 ![0, 0, 0, 0]
        (shapeCast S256x2x8x256 a shapeCasts_S4096x256_S256x2x8x256) slices_S256x2x8x256_o0_0_0_0_S256x1x8x256⟩,
     ⟨S256x1x8x256, shapeCast S256x1x8x256 (concatenate S256x8x256 1
        [⟨S256x4x256, extractStridedSlice S256x4x256 ![0, 4, 0] (shapeCast S256x8x256 (extractStridedSlice S256x1x8x256 ![0, 1, 0, 0]
            (shapeCast S256x2x8x256 a shapeCasts_S4096x256_S256x2x8x256) slices_S256x2x8x256_o0_1_0_0_S256x1x8x256)
            shapeCasts_S256x1x8x256_S256x8x256) slices_S256x8x256_o0_4_0_S256x4x256⟩,
         ⟨S256x4x256, extractStridedSlice S256x4x256 ![0, 0, 0] (shapeCast S256x8x256 (extractStridedSlice S256x1x8x256 ![0, 1, 0, 0]
            (shapeCast S256x2x8x256 a shapeCasts_S4096x256_S256x2x8x256) slices_S256x2x8x256_o0_1_0_0_S256x1x8x256)
            shapeCasts_S256x1x8x256_S256x8x256) slices_S256x8x256_o0_0_0_S256x4x256⟩]
        concatenates_S256x4x256_S256x4x256_S256x8x256_d1) shapeCasts_S256x8x256_S256x1x8x256⟩]
    concatenates_S256x1x8x256_S256x1x8x256_S256x2x8x256_d1) shapeCasts_S256x2x8x256_S4096x256

def cnot9 (a : St F) : St F := of8 (select (wide (mask 4#32)) (roll2 (to8 a)) (to8 a))
def cnot10 (a : St F) : St F := of8 (select (wide (mask 2#32)) (roll1 (to8 a)) (to8 a))

/-- CNOT from wire 11 to wire 0: the two halves exchanged where the lowest bit is set. -/
def cnot11 (a : St F) : St F :=
  of8 (select (wide (mask 1#32))
    (shapeCast S512x8x256 (concatenate S2x256x8x256 0
      [⟨S1x256x8x256, extractStridedSlice S1x256x8x256 ![1, 0, 0, 0]
          (shapeCast S2x256x8x256 a shapeCasts_S4096x256_S2x256x8x256) slices_S2x256x8x256_o1_0_0_0_S1x256x8x256⟩,
       ⟨S1x256x8x256, extractStridedSlice S1x256x8x256 ![0, 0, 0, 0]
          (shapeCast S2x256x8x256 a shapeCasts_S4096x256_S2x256x8x256) slices_S2x256x8x256_o0_0_0_0_S1x256x8x256⟩]
      concatenates_S1x256x8x256_S1x256x8x256_S2x256x8x256_d0) shapeCasts_S2x256x8x256_S512x8x256) (to8 a))

def cnots (a : St F) : St F :=
  cnot11 (cnot10 (cnot9 (cnot8 (cnot7 (cnot6 (cnot5 (cnot4 (cnot3 (cnot2 (cnot1 (cnot0 a)))))))))))

/-- One layer but the last. -/
def layer (l : ℕ) (hl : l < 6) (cq sq : FVec F S6x12 .f32) (a : St F × St F) : St F × St F :=
  (cnots (turn (pick second) (pick (xori odd second)) (high l hl cq sq (low l hl cq sq a))).1,
   cnots (turn (pick second) (pick (xori odd second)) (high l hl cq sq (low l hl cq sq a))).2)

/-! ## The embedding -/

/-- One more wire on top: the state times the wire's cosine above, times minus `i` times its sine below. -/
def grow {s t : Shape} (d : Fin t.rank) (h : Shape.Concatenates [s, s] t d) (c e : FVec F s .f32)
    (a : FVec F s .f32 × FVec F s .f32) : FVec F t .f32 × FVec F t .f32 :=
  (concatenate t d [⟨s, mulf c a.1⟩, ⟨s, mulf e a.2⟩] h,
   concatenate t d [⟨s, mulf c a.2⟩, ⟨s, subf (broadcast s (Scalar.ofBits .f32 0x00000000#32)) (mulf e a.1)⟩] h)

/-- Row `w` of a table of cosines or sines. -/
def row (w : ℕ) (h : S12x256.Slices ![w, 0] S1x256) (t : FVec F S12x256 .f32) : FVec F S1x256 .f32 :=
  extractStridedSlice S1x256 ![w, 0] t h

def embed (cx sx : FVec F S12x256 .f32) : St F × St F :=
  grow (s := S2048x256) (t := S4096x256) 0 concatenates_S2048x256_S2048x256_S4096x256_d0
    (broadcastTo S2048x256 (row 0 slices_S12x256_o0_0_S1x256 cx) broadcasts_S1x256_S2048x256)
    (broadcastTo S2048x256 (row 0 slices_S12x256_o0_0_S1x256 sx) broadcasts_S1x256_S2048x256) <|
  grow (s := S1024x256) (t := S2048x256) 0 concatenates_S1024x256_S1024x256_S2048x256_d0
    (broadcastTo S1024x256 (row 1 slices_S12x256_o1_0_S1x256 cx) broadcasts_S1x256_S1024x256)
    (broadcastTo S1024x256 (row 1 slices_S12x256_o1_0_S1x256 sx) broadcasts_S1x256_S1024x256) <|
  grow (s := S512x256) (t := S1024x256) 0 concatenates_S512x256_S512x256_S1024x256_d0
    (broadcastTo S512x256 (row 2 slices_S12x256_o2_0_S1x256 cx) broadcasts_S1x256_S512x256)
    (broadcastTo S512x256 (row 2 slices_S12x256_o2_0_S1x256 sx) broadcasts_S1x256_S512x256) <|
  grow (s := S256x256) (t := S512x256) 0 concatenates_S256x256_S256x256_S512x256_d0
    (broadcastTo S256x256 (row 3 slices_S12x256_o3_0_S1x256 cx) broadcasts_S1x256_S256x256)
    (broadcastTo S256x256 (row 3 slices_S12x256_o3_0_S1x256 sx) broadcasts_S1x256_S256x256) <|
  grow (s := S128x256) (t := S256x256) 0 concatenates_S128x256_S128x256_S256x256_d0
    (broadcastTo S128x256 (row 4 slices_S12x256_o4_0_S1x256 cx) broadcasts_S1x256_S128x256)
    (broadcastTo S128x256 (row 4 slices_S12x256_o4_0_S1x256 sx) broadcasts_S1x256_S128x256) <|
  grow (s := S64x256) (t := S128x256) 0 concatenates_S64x256_S64x256_S128x256_d0
    (broadcastTo S64x256 (row 5 slices_S12x256_o5_0_S1x256 cx) broadcasts_S1x256_S64x256)
    (broadcastTo S64x256 (row 5 slices_S12x256_o5_0_S1x256 sx) broadcasts_S1x256_S64x256) <|
  grow (s := S32x256) (t := S64x256) 0 concatenates_S32x256_S32x256_S64x256_d0
    (broadcastTo S32x256 (row 6 slices_S12x256_o6_0_S1x256 cx) broadcasts_S1x256_S32x256)
    (broadcastTo S32x256 (row 6 slices_S12x256_o6_0_S1x256 sx) broadcasts_S1x256_S32x256) <|
  grow (s := S16x256) (t := S32x256) 0 concatenates_S16x256_S16x256_S32x256_d0
    (broadcastTo S16x256 (row 7 slices_S12x256_o7_0_S1x256 cx) broadcasts_S1x256_S16x256)
    (broadcastTo S16x256 (row 7 slices_S12x256_o7_0_S1x256 sx) broadcasts_S1x256_S16x256) <|
  grow (s := S8x256) (t := S16x256) 0 concatenates_S8x256_S8x256_S16x256_d0
    (broadcastTo S8x256 (row 8 slices_S12x256_o8_0_S1x256 cx) broadcasts_S1x256_S8x256)
    (broadcastTo S8x256 (row 8 slices_S12x256_o8_0_S1x256 sx) broadcasts_S1x256_S8x256) <|
  grow (s := S4x256) (t := S8x256) 0 concatenates_S4x256_S4x256_S8x256_d0
    (broadcastTo S4x256 (row 9 slices_S12x256_o9_0_S1x256 cx) broadcasts_S1x256_S4x256)
    (broadcastTo S4x256 (row 9 slices_S12x256_o9_0_S1x256 sx) broadcasts_S1x256_S4x256) <|
  grow (s := S2x256) (t := S4x256) 0 concatenates_S2x256_S2x256_S4x256_d0
    (broadcastTo S2x256 (row 10 slices_S12x256_o10_0_S1x256 cx) broadcasts_S1x256_S2x256)
    (broadcastTo S2x256 (row 10 slices_S12x256_o10_0_S1x256 sx) broadcasts_S1x256_S2x256) <|
  grow (s := S1x256) (t := S2x256) 0 concatenates_S1x256_S1x256_S2x256_d0
    (row 11 slices_S12x256_o11_0_S1x256 cx) (row 11 slices_S12x256_o11_0_S1x256 sx)
    (broadcast S1x256 (Scalar.ofBits .f32 0x3F800000#32), broadcast S1x256 (Scalar.ofBits .f32 0x00000000#32))

/-! ## The whole body -/

/-- Where the kernel weighs an amplitude with minus one: by wire and row, the parity of some of the row's bits. -/
def parity : IVec S12x4096 32 :=
  select (cmpi .eq (iota .tc S12x4096 32 [0] iota_S12x4096_d0_w32) (broadcast S12x4096 0#32))
    (andi (addi (ctpop (iota .tc S12x4096 32 [1] iota_S12x4096_d1_w32))
      (shrsi (iota .tc S12x4096 32 [1] iota_S12x4096_d1_w32) (broadcast S12x4096 11#32))) (broadcast S12x4096 1#32))
    (andi (ctpop (shrsi (iota .tc S12x4096 32 [1] iota_S12x4096_d1_w32)
      (subi (broadcast S12x4096 11#32) (iota .tc S12x4096 32 [0] iota_S12x4096_d0_w32)))) (broadcast S12x4096 1#32))

def halves {s : Shape} (t : FVec F s .f32) : FVec F s .f32 := mulf t (broadcast s (Scalar.ofBits .f32 0x3F000000#32))

def final (cq sq : FVec F S6x12 .f32) (a : St F × St F) : St F × St F :=
  high 5 (by decide) cq sq (low 5 (by decide) cq sq a)

def states (cq sq : FVec F S6x12 .f32) (a : St F × St F) : St F × St F :=
  layer 4 (by decide) cq sq <| layer 3 (by decide) cq sq <| layer 2 (by decide) cq sq <|
    layer 1 (by decide) cq sq <| layer 0 (by decide) cq sq a

def probs (a : St F × St F) : St F := addf (mulf a.1 a.1) (mulf a.2 a.2)

def weights : FVec F S12x4096 .f32 :=
  select (cmpi .eq parity (broadcast S12x4096 1#32)) (broadcast S12x4096 (Scalar.ofBits .f32 0xBF800000#32))
    (broadcast S12x4096 (Scalar.ofBits .f32 0x3F800000#32))

/-- The observables through the linear map. -/
def readout (W : FVec F S64x12 .f32) (b : FVec F S64x1 .f32) (p : St F) : FVec F S64x256 .f32 :=
  addf (matmul dot_S64x12_S12x256_S64x256_1_0_0_1_n_n none W
      (matmul dot_S12x4096_S4096x256_S12x256_1_0_0_1_n_n none weights p (constant S12x256 .f32 0x00000000#32))
      (constant S64x256 .f32 0x00000000#32))
    (broadcastTo S64x256 (shapeCast S64x1 b shapeCasts_S64x1_S64x1) broadcasts_S64x1_S64x256)

/-- The kernel's body on one block of samples. -/
def kern (x : FVec F S12x256 .f32) (q : FVec F S6x12 .f32) (W : FVec F S64x12 .f32) (b : FVec F S64x1 .f32) : FVec F S64x256 .f32 :=
  readout W b <| probs <| final (cos (halves q)) (sin (halves q)) <| states (cos (halves q)) (sin (halves q)) <|
    embed (cos (halves (shapeCast S12x256 x shapeCasts_S12x256_S12x256)))
      (sin (halves (shapeCast S12x256 x shapeCasts_S12x256_S12x256)))

end Cert.KernelIdeal.Ops

end
-- ==== Proof.KernelValue.lean ====
/- The kernel's operations read at an index, at extended reals: each acts on the two arrays as its counterpart of the
   circuit acts on the amplitudes they hold. At the end the body's result is the linear map of the circuit's observables. -/
module

public import proofs.«01_k».proof.Proof.KernelOps
public import proofs.«01_k».proof.Proof.Words
public import Idealize.ShloMosaic.Lib.Pointwise
public import Idealize.ShloMosaic.Lib.IdealHost
public import Idealize.ShloMosaic.Lib.Pipeline.Value
public import Idealize.ShloMosaic.PureOps.Ideal.Laws
public import Mathlib.Data.EReal.Operations

@[expose] public section

noncomputable section

namespace Cert.KernelIdeal.Ops

open Cert.KernelIdeal Cert.KernelIdeal.Gen Idealize.ShloMosaic Cert.Circuit Cert.Words

variable {F : FTy → Type} [FloatOps F]

/-! ## Rows -/

theorem row_congr {α : Type} {a : S4096x256.Idx → α} {n m : Fin 4096} (h : n.val = m.val) (j : Fin 256) :
    a (ix2 n j) = a (ix2 m j) := by rw [Fin.ext h]

/-- The row with bit `k` flipped. -/
def flipped (k : ℕ) (hk : k < 12) (n : Fin 4096) : Fin 4096 := ⟨n.val ^^^ 2 ^ k, flip_lt hk n.isLt⟩

theorem flipped_val (k : ℕ) (hk : k < 12) (n : Fin 4096) :
    (flipped k hk n).val + 2 * 2 ^ k * (n.val / 2 ^ k % 2) = n.val + 2 ^ k := by
  show (n.val ^^^ 2 ^ k) + _ = _
  rw [flip_eq]
  split
  · next h =>
    have hle : 2 ^ k ≤ n.val := by
      by_contra hc
      rw [Nat.div_eq_of_lt (by omega)] at h
      omega
    rw [h]; omega
  · next h =>
    rw [show n.val / 2 ^ k % 2 = 0 by omega]; omega

/-- The row a CNOT reads. -/
def crossed (w : ℕ) (n : Fin 4096) : Fin 4096 := ⟨cx w n.val, cx_lt n.isLt⟩

theorem crossed_val (w : ℕ) (n : Fin 4096) : (crossed w n).val
    = if n.val / 2 ^ (11 - w) % 2 = 1 then (flipped (11 - (w + 1) % 12) (by omega) n).val else n.val := rfl

section Masks
variable {α : Type}

theorem mask_one (r : ℕ) (hr : r < 8) (x y : α) :
    Scalar.select (IntOp.cmpi .eq (IntOp.andi (BitVec.ofNat 32 r) 1#32) 1#32) x y = if r % 2 = 1 then x else y := by
  interval_cases r <;> rfl

theorem mask_two (r : ℕ) (hr : r < 8) (x y : α) :
    Scalar.select (IntOp.cmpi .eq (IntOp.andi (BitVec.ofNat 32 r) 2#32) 2#32) x y = if r / 2 % 2 = 1 then x else y := by
  interval_cases r <;> rfl

theorem mask_four (r : ℕ) (hr : r < 8) (x y : α) :
    Scalar.select (IntOp.cmpi .eq (IntOp.andi (BitVec.ofNat 32 r) 4#32) 4#32) x y = if r / 4 % 2 = 1 then x else y := by
  interval_cases r <;> rfl

end Masks

/-! ## Flips -/

theorem flip5_apply (a : St F) (n : Fin 4096) (j : Fin 256) : flip5 a (ix2 n j) = a (ix2 (flipped 5 (by decide) n) j) := by
  have e : (flipped 5 (by decide) n).val + 64 * (n.val / 32 % 2) = n.val + 32 := flipped_val 5 (by decide) n
  pointwise [flip5]
  split <;> exact row_congr (by first | omega | (dsimp only; omega)) j

theorem flip4_apply (a : St F) (n : Fin 4096) (j : Fin 256) : flip4 a (ix2 n j) = a (ix2 (flipped 4 (by decide) n) j) := by
  have e : (flipped 4 (by decide) n).val + 32 * (n.val / 16 % 2) = n.val + 16 := flipped_val 4 (by decide) n
  pointwise [flip4]
  split <;> exact row_congr (by first | omega | (dsimp only; omega)) j

theorem flip3_apply (a : St F) (n : Fin 4096) (j : Fin 256) : flip3 a (ix2 n j) = a (ix2 (flipped 3 (by decide) n) j) := by
  have e : (flipped 3 (by decide) n).val + 16 * (n.val / 8 % 2) = n.val + 8 := flipped_val 3 (by decide) n
  pointwise [flip3]
  split <;> exact row_congr (by first | omega | (dsimp only; omega)) j

theorem flip2_apply (a : St F) (n : Fin 4096) (j : Fin 256) : flip2 a (ix2 n j) = a (ix2 (flipped 2 (by decide) n) j) := by
  have e : (flipped 2 (by decide) n).val + 8 * (n.val / 4 % 2) = n.val + 4 := flipped_val 2 (by decide) n
  pointwise [flip2, to8, of8]
  split <;> exact row_congr (by first | omega | (dsimp only; omega)) j

theorem flip1_apply (a : St F) (n : Fin 4096) (j : Fin 256) : flip1 a (ix2 n j) = a (ix2 (flipped 1 (by decide) n) j) := by
  have e : (flipped 1 (by decide) n).val + 4 * (n.val / 2 % 2) = n.val + 2 := flipped_val 1 (by decide) n
  pointwise [flip1, roll2, wide, mask, to8, of8]
  rw [mask_two _ (by omega)]
  repeat' split
  all_goals exact row_congr (by first | omega | (dsimp only; omega)) j

theorem flip0_apply (a : St F) (n : Fin 4096) (j : Fin 256) : flip0 a (ix2 n j) = a (ix2 (flipped 0 (by decide) n) j) := by
  have e : (flipped 0 (by decide) n).val + 2 * (n.val / 1 % 2) = n.val + 1 := flipped_val 0 (by decide) n
  pointwise [flip0, roll1, wide, mask, to8, of8]
  rw [mask_one _ (by omega)]
  repeat' split
  all_goals exact row_congr (by first | omega | (dsimp only; omega)) j

/-! ## CNOTs -/

theorem cnot0_apply (a : St F) (n : Fin 4096) (j : Fin 256) : cnot0 a (ix2 n j) = a (ix2 (crossed 0 n) j) := by
  have e : (crossed 0 n).val = if n.val / 2048 % 2 = 1 then (flipped 10 (by decide) n).val else n.val := crossed_val 0 n
  have f : (flipped 10 (by decide) n).val + 2048 * (n.val / 1024 % 2) = n.val + 1024 := flipped_val 10 (by decide) n
  pointwise [cnot0]
  split at e <;> repeat' split
  all_goals exact row_congr (by first | omega | (dsimp only; omega)) j

theorem cnot1_apply (a : St F) (n : Fin 4096) (j : Fin 256) : cnot1 a (ix2 n j) = a (ix2 (crossed 1 n) j) := by
  have e : (crossed 1 n).val = if n.val / 1024 % 2 = 1 then (flipped 9 (by decide) n).val else n.val := crossed_val 1 n
  have f : (flipped 9 (by decide) n).val + 1024 * (n.val / 512 % 2) = n.val + 512 := flipped_val 9 (by decide) n
  pointwise [cnot1]
  split at e <;> repeat' split
  all_goals exact row_congr (by first | omega | (dsimp only; omega)) j

theorem cnot2_apply (a : St F) (n : Fin 4096) (j : Fin 256) : cnot2 a (ix2 n j) = a (ix2 (crossed 2 n) j) := by
  have e : (crossed 2 n).val = if n.val / 512 % 2 = 1 then (flipped 8 (by decide) n).val else n.val := crossed_val 2 n
  have f : (flipped 8 (by decide) n).val + 512 * (n.val / 256 % 2) = n.val + 256 := flipped_val 8 (by decide) n
  pointwise [cnot2]
  split at e <;> repeat' split
  all_goals exact row_congr (by first | omega | (dsimp only; omega)) j

theorem cnot3_apply (a : St F) (n : Fin 4096) (j : Fin 256) : cnot3 a (ix2 n j) = a (ix2 (crossed 3 n) j) := by
  have e : (crossed 3 n).val = if n.val / 256 % 2 = 1 then (flipped 7 (by decide) n).val else n.val := crossed_val 3 n
  have f : (flipped 7 (by decide) n).val + 256 * (n.val / 128 % 2) = n.val + 128 := flipped_val 7 (by decide) n
  pointwise [cnot3]
  split at e <;> repeat' split
  all_goals exact row_congr (by first | omega | (dsimp only; omega)) j

theorem cnot4_apply (a : St F) (n : Fin 4096) (j : Fin 256) : cnot4 a (ix2 n j) = a (ix2 (crossed 4 n) j) := by
  have e : (crossed 4 n).val = if n.val / 128 % 2 = 1 then (flipped 6 (by decide) n).val else n.val := crossed_val 4 n
  have f : (flipped 6 (by decide) n).val + 128 * (n.val / 64 % 2) = n.val + 64 := flipped_val 6 (by decide) n
  pointwise [cnot4]
  split at e <;> repeat' split
  all_goals exact row_congr (by first | omega | (dsimp only; omega)) j

theorem cnot5_apply (a : St F) (n : Fin 4096) (j : Fin 256) : cnot5 a (ix2 n j) = a (ix2 (crossed 5 n) j) := by
  have e : (crossed 5 n).val = if n.val / 64 % 2 = 1 then (flipped 5 (by decide) n).val else n.val := crossed_val 5 n
  have f : (flipped 5 (by decide) n).val + 64 * (n.val / 32 % 2) = n.val + 32 := flipped_val 5 (by decide) n
  pointwise [cnot5]
  split at e <;> repeat' split
  all_goals exact row_congr (by first | omega | (dsimp only; omega)) j

theorem cnot6_apply (a : St F) (n : Fin 4096) (j : Fin 256) : cnot6 a (ix2 n j) = a (ix2 (crossed 6 n) j) := by
  have e : (crossed 6 n).val = if n.val / 32 % 2 = 1 then (flipped 4 (by decide) n).val else n.val := crossed_val 6 n
  have f : (flipped 4 (by decide) n).val + 32 * (n.val / 16 % 2) = n.val + 16 := flipped_val 4 (by decide) n
  pointwise [cnot6]
  split at e <;> repeat' split
  all_goals exact row_congr (by first | omega | (dsimp only; omega)) j

theorem cnot7_apply (a : St F) (n : Fin 4096) (j : Fin 256) : cnot7 a (ix2 n j) = a (ix2 (crossed 7 n) j) := by
  have e : (crossed 7 n).val = if n.val / 16 % 2 = 1 then (flipped 3 (by decide) n).val else n.val := crossed_val 7 n
  have f : (flipped 3 (by decide) n).val + 16 * (n.val / 8 % 2) = n.val + 8 := flipped_val 3 (by decide) n
  pointwise [cnot7]
  split at e <;> repeat' split
  all_goals exact row_congr (by first | omega | (dsimp only; omega)) j

theorem cnot8_apply (a : St F) (n : Fin 4096) (j : Fin 256) : cnot8 a (ix2 n j) = a (ix2 (crossed 8 n) j) := by
  have e : (crossed 8 n).val = if n.val / 8 % 2 = 1 then (flipped 2 (by decide) n).val else n.val := crossed_val 8 n
  have f : (flipped 2 (by decide) n).val + 8 * (n.val / 4 % 2) = n.val + 4 := flipped_val 2 (by decide) n
  pointwise [cnot8]
  split at e <;> repeat' split
  all_goals exact row_congr (by first | omega | (dsimp only; omega)) j

theorem cnot9_apply (a : St F) (n : Fin 4096) (j : Fin 256) : cnot9 a (ix2 n j) = a (ix2 (crossed 9 n) j) := by
  have e : (crossed 9 n).val = if n.val / 4 % 2 = 1 then (flipped 1 (by decide) n).val else n.val := crossed_val 9 n
  have f : (flipped 1 (by decide) n).val + 4 * (n.val / 2 % 2) = n.val + 2 := flipped_val 1 (by decide) n
  pointwise [cnot9, roll2, wide, mask, to8, of8]
  rw [mask_four _ (by omega)]
  rw [mask_two _ (by omega)]
  split at e <;> repeat' split
  all_goals exact row_congr (by first | omega | (dsimp only; omega)) j

theorem cnot10_apply (a : St F) (n : Fin 4096) (j : Fin 256) : cnot10 a (ix2 n j) = a (ix2 (crossed 10 n) j) := by
  have e : (crossed 10 n).val = if n.val / 2 % 2 = 1 then (flipped 0 (by decide) n).val else n.val := crossed_val 10 n
  have f : (flipped 0 (by decide) n).val + 2 * (n.val / 1 % 2) = n.val + 1 := flipped_val 0 (by decide) n
  pointwise [cnot10, roll1, wide, mask, to8, of8]
  rw [mask_two _ (by omega)]
  rw [mask_one _ (by omega)]
  split at e <;> repeat' split
  all_goals exact row_congr (by first | omega | (dsimp only; omega)) j

theorem cnot11_apply (a : St F) (n : Fin 4096) (j : Fin 256) : cnot11 a (ix2 n j) = a (ix2 (crossed 11 n) j) := by
  have e : (crossed 11 n).val = if n.val / 1 % 2 = 1 then (flipped 11 (by decide) n).val else n.val := crossed_val 11 n
  have f : (flipped 11 (by decide) n).val + 4096 * (n.val / 2048 % 2) = n.val + 2048 := flipped_val 11 (by decide) n
  pointwise [cnot11, wide, mask, to8, of8]
  rw [mask_one _ (by omega)]
  split at e <;> repeat' split
  all_goals exact row_congr (by first | omega | (dsimp only; omega)) j

theorem cnots_apply (a : St F) (n : Fin 4096) (j : Fin 256) :
    cnots a (ix2 n j) = a (ix2 ⟨ring n.val, ring_lt n.isLt⟩ j) := by
  unfold cnots
  rw [cnot11_apply, cnot10_apply, cnot9_apply, cnot8_apply, cnot7_apply, cnot6_apply, cnot5_apply, cnot4_apply,
    cnot3_apply, cnot2_apply, cnot1_apply, cnot0_apply]
  rfl

/-! ## Words -/

theorem word_and {i k : ℕ} (hi : i < 64) (hk : k < 64) :
    IntOp.andi (BitVec.ofNat 32 i) (BitVec.ofNat 32 k) = BitVec.ofNat 32 (i &&& k) := by
  have h : i &&& k < 64 := Nat.and_lt_two_pow (n := 6) i hk
  apply BitVec.eq_of_toNat_eq
  show (BitVec.ofNat 32 i &&& BitVec.ofNat 32 k).toNat = _
  rw [BitVec.toNat_and, BitVec.toNat_ofNat, BitVec.toNat_ofNat, BitVec.toNat_ofNat, Nat.mod_eq_of_lt (by omega),
    Nat.mod_eq_of_lt (by omega), Nat.mod_eq_of_lt (by omega)]

theorem word_add (i k : ℕ) : IntOp.addi (BitVec.ofNat 32 i) (BitVec.ofNat 32 k) = BitVec.ofNat 32 (i + k) :=
  (BitVec.ofNat_add i k).symm

theorem length_filter_bits (p : ℕ → Bool) (l : List ℕ) : (l.filter p).length = (l.map fun i => (p i).toNat).sum := by
  induction l with
  | nil => rfl
  | cons a l ih =>
    rw [List.filter_cons, List.map_cons, List.sum_cons, ← ih]
    cases p a <;> simp [Nat.add_comm]

theorem word_count {n : ℕ} (hn : n < 4096) : IntOp.ctpop (BitVec.ofNat 32 n) = BitVec.ofNat 32 (pc12 n) := by
  refine congrArg (BitVec.ofNat 32) ?_
  rw [length_filter_bits, ← bits_sum hn]
  refine congrArg List.sum (List.map_congr_left fun i hi => ?_)
  have hi := List.mem_range.mp hi
  rw [BitVec.getLsbD_ofNat, Nat.testBit_eq_decide_div_mod_eq]
  have h2 : n / 2 ^ i % 2 < 2 := Nat.mod_lt _ (by decide)
  generalize n / 2 ^ i % 2 = q at *
  interval_cases q <;> simp [hi]

theorem pc12_low {n : ℕ} (hn : n < 64) : pc12 n = pc n := by
  unfold pc12; rw [Nat.div_eq_of_lt hn]; simp [pc]

theorem pc_le (n : ℕ) : pc n ≤ 6 := by unfold pc; omega

section Selects
variable {α : Type}

theorem select_odd (p : ℕ) (hp : p ≤ 13) (x y : α) :
    Scalar.select (IntOp.cmpi .eq (IntOp.andi (BitVec.ofNat 32 p) 1#32) 1#32) x y = if p % 2 = 1 then x else y := by
  interval_cases p <;> rfl

theorem select_second (p : ℕ) (hp : p ≤ 6) (x y : α) :
    Scalar.select (IntOp.cmpi .eq (IntOp.andi (BitVec.ofNat 32 p) 2#32) 2#32) x y = if p / 2 % 2 = 1 then x else y := by
  interval_cases p <;> rfl

theorem select_either (p : ℕ) (hp : p ≤ 6) (x y : α) :
    Scalar.select (IntOp.xori (IntOp.cmpi .eq (IntOp.andi (BitVec.ofNat 32 p) 1#32) 1#32)
      (IntOp.cmpi .eq (IntOp.andi (BitVec.ofNat 32 p) 2#32) 2#32)) x y = if (p + p / 2) % 2 = 1 then x else y := by
  interval_cases p <;> rfl

theorem select_first (w : ℕ) (hw : w < 12) (x y : α) :
    Scalar.select (IntOp.cmpi .eq (BitVec.ofNat 32 w) 0#32) x y = if w = 0 then x else y := by
  interval_cases w <;> rfl

end Selects

theorem neg_one_bits : Ideal.ofBits .f32 0xBF800000#32 = ((-1 : ℝ) : EReal) := by
  simp [Ideal.ofBits, Ideal.ieee, -EReal.coe_mul, -EReal.coe_neg]; norm_num

theorem coe_ite (p : Prop) [Decidable p] (x y : ℝ) : (if p then (x : EReal) else (y : EReal)) = ((if p then x else y : ℝ) : EReal) := by
  split <;> rfl

theorem neg_one_power (n : ℕ) : (-1 : ℝ) ^ n = if n % 2 = 1 then -1 else 1 := by
  rcases Nat.mod_two_eq_zero_or_one n with h | h
  · rw [if_neg (by omega), Even.neg_one_pow (Nat.even_iff.mpr h)]
  · rw [if_pos h, Odd.neg_one_pow (Nat.odd_iff.mpr h)]

/-! ## States -/

/-- Arrays of `K` rows hold the amplitudes `ψ`, one state a sample. -/
def Rep {K : ℕ} (a : FVec Ideal ⟨2, ![K, 256]⟩ .f32 × FVec Ideal ⟨2, ![K, 256]⟩ .f32) (ψ : Fin 256 → ℕ → ℂ) : Prop :=
  ∀ (n : Fin K) (j : Fin 256), a.1 (ix2 n j) = (((ψ j n.val).re : ℝ) : EReal) ∧ a.2 (ix2 n j) = (((ψ j n.val).im : ℝ) : EReal)

theorem Rep.congr {K : ℕ} {a : FVec Ideal ⟨2, ![K, 256]⟩ .f32 × FVec Ideal ⟨2, ![K, 256]⟩ .f32} {ψ φ : Fin 256 → ℕ → ℂ}
    (h : Rep a ψ) (e : ∀ j, ∀ n < K, ψ j n = φ j n) : Rep a φ := fun n j => by
  rw [← e j n.val n.isLt]; exact h n j

theorem gate_re (c s : ℝ) (w : ℕ) (ψ : ℕ → ℂ) (n : ℕ) :
    (gate c s w ψ n).re = c * (ψ n).re + s * (ψ (n ^^^ 2 ^ (11 - w))).im := by
  simp [gate]

theorem gate_im (c s : ℝ) (w : ℕ) (ψ : ℕ → ℂ) (n : ℕ) :
    (gate c s w ψ n).im = c * (ψ n).im - s * (ψ (n ^^^ 2 ^ (11 - w))).re := by
  simp [gate]

theorem rx_rep (w : ℕ) {p : St Ideal → St Ideal}
    (hp : ∀ a n j, p a (ix2 n j) = a (ix2 (flipped (11 - w) (by omega) n) j)) {c s : Ideal .f32} {c' s' : ℝ}
    (hc : c = (c' : EReal)) (hs : s = (s' : EReal)) {a : St Ideal × St Ideal} {ψ : Fin 256 → ℕ → ℂ} (h : Rep a ψ) :
    Rep (K := 4096) (rx p c s a) fun j => gate c' s' w (ψ j) := by
  intro n j
  have h0 := h n j
  have h1 := h (flipped (11 - w) (by omega) n) j
  rw [gate_re, gate_im, EReal.coe_add, EReal.coe_sub, EReal.coe_mul, EReal.coe_mul, EReal.coe_mul, EReal.coe_mul]
  constructor
  · pointwise [rx]
    rw [hp, h0.1, h1.2, hc, hs]
    rfl
  · pointwise [rx]
    rw [hp, h0.2, h1.1, hc, hs]
    rfl

theorem ang_eq {l w : ℕ} (hl : l < 6) (hw : w < 12) (h : S6x12.Slices ![l, w] S1x1) (t : FVec F S6x12 .f32) :
    ang l w h t = t (ix2 ⟨l, hl⟩ ⟨w, hw⟩) := by
  unfold ang extractAt extractStridedSlice
  refine congrArg t ?_
  funext a
  apply Fin.ext
  refine Fin.cases ?_ (fun a => Fin.cases ?_ (fun a => a.elim0) a) a <;> simp [ix2]

/-- The tables hold these cosines or sines. -/
def Table (t : FVec Ideal S6x12 .f32) (c : ℕ → ℕ → ℝ) : Prop :=
  ∀ (l : Fin 6) (w : Fin 12), t (ix2 l w) = ((c l.val w.val : ℝ) : EReal)

theorem Table.ang {t : FVec Ideal S6x12 .f32} {c : ℕ → ℕ → ℝ} (ht : Table t c) {l w : ℕ} (hl : l < 6) (hw : w < 12)
    (h : S6x12.Slices ![l, w] S1x1) : Ops.ang l w h t = ((c l w : ℝ) : EReal) :=
  (ang_eq hl hw h t).trans (ht ⟨l, hl⟩ ⟨w, hw⟩)

section Layers
variable {cq sq : FVec Ideal S6x12 .f32} {c s : ℕ → ℕ → ℝ} (hc : Table cq c) (hs : Table sq s)
include hc hs

theorem low_rep (l : ℕ) (hl : l < 6) {a : St Ideal × St Ideal} {ψ : Fin 256 → ℕ → ℂ} (h : Rep a ψ) :
    Rep (K := 4096) (low l hl cq sq a) fun j => gates (c l) (s l) [6, 7, 8, 9, 10, 11] (ψ j) :=
  rx_rep 11 flip0_apply (hc.ang hl (by decide) _) (hs.ang hl (by decide) _) <|
  rx_rep 10 flip1_apply (hc.ang hl (by decide) _) (hs.ang hl (by decide) _) <|
  rx_rep 9 flip2_apply (hc.ang hl (by decide) _) (hs.ang hl (by decide) _) <|
  rx_rep 8 flip3_apply (hc.ang hl (by decide) _) (hs.ang hl (by decide) _) <|
  rx_rep 7 flip4_apply (hc.ang hl (by decide) _) (hs.ang hl (by decide) _) <|
  rx_rep 6 flip5_apply (hc.ang hl (by decide) _) (hs.ang hl (by decide) _) h

theorem part_apply {l w b : ℕ} (hl : l < 6) (hw : w < 12) (hb : b < 6) (h : S6x12.Slices ![l, w] S1x1) (i k : Fin 64) :
    part l w (BitVec.ofNat 32 b) h cq sq (ix2 i k)
      = ((if (i.val ^^^ k.val) / 2 ^ b % 2 = 1 then s l w else c l w : ℝ) : EReal) := by
  have hx : i.val ^^^ k.val < 64 := Nat.xor_lt_two_pow (n := 6) i.isLt k.isLt
  pointwise [part, differ, rowI, colI]
  rw [word_xor (i := i.val) (k := k.val) (by omega) (by omega), word_shift _ (by omega) (by omega), hc.ang hl hw, hs.ang hl hw, ← coe_ite]
  have hd : (i.val ^^^ k.val) / 2 ^ b < 64 := lt_of_le_of_lt (Nat.div_le_self _ _) hx
  generalize (i.val ^^^ k.val) / 2 ^ b = p at *
  interval_cases p <;> rfl

theorem matrix_apply {l : ℕ} (hl : l < 6) (i k : Fin 64) : matrix l hl cq sq (ix2 i k)
    = ((amp (c l) (s l) (i.val ^^^ k.val) * (-1) ^ (pc k.val + pc (i.val &&& k.val)) : ℝ) : EReal) := by
  have ha : i.val &&& k.val < 64 := Nat.and_lt_two_pow (n := 6) _ k.isLt
  have hsg : (sgn : FVec Ideal S64x64 .f32) (ix2 i k) = (((-1) ^ (pc k.val + pc (i.val &&& k.val)) : ℝ) : EReal) := by
    pointwise [sgn, rowI, colI]
    have h1 := pc_le k.val
    have h2 := pc_le (i.val &&& k.val)
    rw [word_and i.isLt k.isLt, word_count (by omega), word_count (by omega), pc12_low k.isLt, pc12_low ha, word_add,
      select_odd _ (by omega), neg_one_bits, neg_one_power, ← coe_ite, EReal.coe_one]
  have hp := fun (w b : ℕ) (hw : w < 12) (hb : b < 6) => part_apply hc hs hl hw hb (slices_one hl hw) i k
  show (((((((_ : EReal) * _) * _) * _) * _) * _) * _) * _ = _
  rw [hp 0 5 (by decide) (by decide), hp 1 4 (by decide) (by decide), hp 2 3 (by decide) (by decide),
    hp 3 2 (by decide) (by decide), hp 4 1 (by decide) (by decide), hp 5 0 (by decide) (by decide), hsg]
  show ((((((Ideal.ofBits .f32 0x3F800000#32 * _) * _) * _) * _) * _) * _) * _ = _
  rw [Ideal.ofBits_one_f32, one_mul]
  simp only [← EReal.coe_mul, amp, Finset.prod_range_succ, Finset.prod_range_zero, one_mul]

end Layers

theorem count_apply (g : Fin 512) (r : Fin 8) (j : Fin 256) : Ops.count (ix3 g r j) = BitVec.ofNat 32 (pc (g.val / 8)) := by
  pointwise [Ops.count]
  rw [word_shift _ (by omega) (by omega), word_count (by omega), pc12_low (by omega)]
  rfl

theorem turn_rep {a : St Ideal × St Ideal} {ψ : Fin 256 → ℕ → ℂ} (h : Rep a ψ) :
    Rep (K := 4096) (turn (pick (xori odd second)) (pick second) a) fun j n => Complex.I ^ pc (n / 64) * ψ j n := by
  intro n j
  have h0 := h n j
  have hp := pc_le (n.val / 64)
  have e : n.val / 8 / 8 = n.val / 64 := by omega
  constructor
  · pointwise [turn, pick, odd, second, to8, of8]
    rw [count_apply]
    simp only [e, select_odd _ (show pc (n.val / 64) ≤ 13 by omega), select_either _ hp, h0.1, h0.2, neg_one_bits]
    generalize pc (n.val / 64) = p at *
    interval_cases p <;> simp [pow_succ]
  · pointwise [turn, pick, odd, second, to8, of8]
    rw [count_apply]
    simp only [e, select_odd _ (show pc (n.val / 64) ≤ 13 by omega), select_second _ hp, h0.1, h0.2, neg_one_bits]
    generalize pc (n.val / 64) = p at *
    interval_cases p <;> simp [pow_succ]

theorem unturn_rep {a : St Ideal × St Ideal} {ψ : Fin 256 → ℕ → ℂ} (h : Rep a ψ) :
    Rep (K := 4096) (turn (pick second) (pick (xori odd second)) a) fun j n => (-Complex.I) ^ pc (n / 64) * ψ j n := by
  intro n j
  have h0 := h n j
  have hp := pc_le (n.val / 64)
  have e : n.val / 8 / 8 = n.val / 64 := by omega
  constructor
  · pointwise [turn, pick, odd, second, to8, of8]
    rw [count_apply]
    simp only [e, select_odd _ (show pc (n.val / 64) ≤ 13 by omega), select_second _ hp, h0.1, h0.2, neg_one_bits]
    generalize pc (n.val / 64) = p at *
    interval_cases p <;> simp [pow_succ]
  · pointwise [turn, pick, odd, second, to8, of8]
    rw [count_apply]
    simp only [e, select_odd _ (show pc (n.val / 64) ≤ 13 by omega), select_either _ hp, h0.1, h0.2, neg_one_bits]
    generalize pc (n.val / 64) = p at *
    interval_cases p <;> simp [pow_succ]

theorem cnots_rep {a : St Ideal × St Ideal} {ψ : Fin 256 → ℕ → ℂ} (h : Rep a ψ) :
    Rep (K := 4096) (cnots a.1, cnots a.2) fun j n => ψ j (ring n) := fun n j => by
  show cnots a.1 (ix2 n j) = _ ∧ cnots a.2 (ix2 n j) = _
  rw [cnots_apply, cnots_apply]
  exact h ⟨ring n.val, ring_lt n.isLt⟩ j

section Layers
variable {cq sq : FVec Ideal S6x12 .f32} {c s : ℕ → ℕ → ℝ} (hc : Table cq c) (hs : Table sq s)
include hc hs

theorem high_rep (l : ℕ) (hl : l < 6) {a : St Ideal × St Ideal} {ψ : Fin 256 → ℕ → ℂ} (h : Rep a ψ) :
    Rep (K := 4096) (high l hl cq sq a) fun j => block (amp (c l) (s l)) (ψ j) := by
  intro n j
  have ht := turn_rep h
  constructor
  · show times _ _ (ix2 n j) = _
    pointwise [times]
    rw [block, Complex.re_sum, ← Fin.sum_univ_eq_sum_range (fun k => (_ : ℂ).re) 64, coe_sum]
    refine Finset.sum_congr rfl fun k _ => ?_
    rw [matrix_apply hc hs hl, (ht _ _).1, ← EReal.coe_mul, Complex.re_ofReal_mul]
    have e : (k.val * 64 + n.val % 64) / 64 = k.val := by omega
    simp only [e]
  · show times _ _ (ix2 n j) = _
    pointwise [times]
    rw [block, Complex.im_sum, ← Fin.sum_univ_eq_sum_range (fun k => (_ : ℂ).im) 64, coe_sum]
    refine Finset.sum_congr rfl fun k _ => ?_
    rw [matrix_apply hc hs hl, (ht _ _).2, ← EReal.coe_mul, Complex.im_ofReal_mul]
    have e : (k.val * 64 + n.val % 64) / 64 = k.val := by omega
    simp only [e]

theorem layer_rep (l : ℕ) (hl : l < 6) {a : St Ideal × St Ideal} {ψ : Fin 256 → ℕ → ℂ} (h : Rep a ψ) :
    Rep (K := 4096) (Ops.layer l hl cq sq a) fun j => Circuit.layer (c l) (s l) (ψ j) :=
  Rep.congr (cnots_rep (unturn_rep (high_rep hc hs l hl (low_rep hc hs l hl h)))) fun j n hn =>
    (gates_twelve (c l) (s l) (ψ j) (ring n) (ring_lt hn)).symm

theorem final_rep {a : St Ideal × St Ideal} {ψ : Fin 256 → ℕ → ℂ} (h : Rep a ψ) :
    Rep (K := 4096) (final cq sq a) fun j => last (c 5) (s 5) (ψ j) :=
  high_rep hc hs 5 (by decide) (low_rep hc hs 5 (by decide) h)

theorem states_rep {a : St Ideal × St Ideal} {ψ : Fin 256 → ℕ → ℂ} (h : Rep a ψ) :
    Rep (K := 4096) (states cq sq a) fun j => Circuit.layer (c 4) (s 4) <| Circuit.layer (c 3) (s 3) <|
      Circuit.layer (c 2) (s 2) <| Circuit.layer (c 1) (s 1) <| Circuit.layer (c 0) (s 0) (ψ j) :=
  layer_rep hc hs 4 _ <| layer_rep hc hs 3 _ <| layer_rep hc hs 2 _ <| layer_rep hc hs 1 _ <| layer_rep hc hs 0 _ h

end Layers

/-! ## The embedding -/

/-- The product state of the last `k` wires. -/
def grown (c s : ℕ → ℝ) : ℕ → ℕ → ℂ
  | 0 => fun _ => 1
  | k + 1 => fun n => if n < 2 ^ k then c (11 - k) * grown c s k n else -(Complex.I * s (11 - k)) * grown c s k (n - 2 ^ k)

theorem grown_eq (c s : ℕ → ℝ) : ∀ k n, n < 2 ^ k →
    grown c s k n = ∏ i ∈ Finset.range k, factor c s (11 - i) (n / 2 ^ i % 2) := by
  intro k
  induction k with
  | zero => intro n _; rfl
  | succ k ih =>
    intro n hn
    rw [Finset.prod_range_succ]
    show (if n < 2 ^ k then _ else _) = _
    split
    · next h => rw [ih n h, Nat.div_eq_of_lt h]; simp [factor, mul_comm]
    · next h =>
      obtain ⟨m, rfl⟩ : ∃ m, n = 2 ^ k + m := ⟨n - 2 ^ k, by omega⟩
      have hm : m < 2 ^ k := by rw [pow_succ] at hn; omega
      rw [Nat.add_sub_cancel_left, ih m hm, show (2 ^ k + m) / 2 ^ k = 1 by
        rw [Nat.add_div_left _ (Nat.two_pow_pos k), Nat.div_eq_of_lt hm]]
      rw [mul_comm]
      congr 1
      refine Finset.prod_congr rfl fun i hi => ?_
      have hi := Finset.mem_range.mp hi
      congr 1
      rw [show 2 ^ k = 2 ^ i * (2 * 2 ^ (k - i - 1)) by rw [← pow_succ', ← pow_add]; congr 1; omega,
        Nat.mul_add_div (Nat.two_pow_pos i)]
      omega

theorem grow_rep {K L : ℕ} (k : ℕ) (hK : K = 2 ^ k) (hL : L = 2 * K)
    (h : Shape.Concatenates [⟨2, ![K, 256]⟩, ⟨2, ![K, 256]⟩] ⟨2, ![L, 256]⟩ 0)
    {c e : FVec Ideal ⟨2, ![K, 256]⟩ .f32} {a : FVec Ideal ⟨2, ![K, 256]⟩ .f32 × FVec Ideal ⟨2, ![K, 256]⟩ .f32}
    {C S : Fin 256 → ℕ → ℝ} (hc : ∀ n j, c (ix2 n j) = ((C j (11 - k) : ℝ) : EReal))
    (he : ∀ n j, e (ix2 n j) = ((S j (11 - k) : ℝ) : EReal))
    (ha : Rep a fun j => grown (C j) (S j) k) : Rep (grow 0 h c e a) fun j => grown (C j) (S j) (k + 1) := by
  intro n j
  show _ = (((if n.val < 2 ^ k then _ else _ : ℂ).re : ℝ) : EReal) ∧ _ = (((if n.val < 2 ^ k then _ else _ : ℂ).im : ℝ) : EReal)
  unfold grow
  dsimp only
  by_cases hn : n.val < K
  · have hi : ∀ b : Fin 2, (ix2 (⟨n.val, hn⟩ : Fin K) j b).val = (ix2 n j b).val :=
      fun b => Fin.cases rfl (fun b => Fin.cases rfl (fun b => b.elim0) b) b
    have h0 := ha ⟨n.val, hn⟩ j
    rw [if_pos (hK ▸ hn), concatenate_pair_apply_left 0 _ _ h (ix2 n j) rfl (ix2 ⟨n.val, hn⟩ j) hi,
      concatenate_pair_apply_left 0 _ _ h (ix2 n j) rfl (ix2 ⟨n.val, hn⟩ j) hi]
    constructor
    · show c _ * a.1 _ = _
      rw [hc, h0.1, ← EReal.coe_mul, Complex.re_ofReal_mul]
    · show c _ * a.2 _ = _
      rw [hc, h0.2, ← EReal.coe_mul, Complex.im_ofReal_mul]
  · have hlt : n.val - K < K := by have := n.isLt; omega
    have hi : ∀ b : Fin 2, b ≠ 0 → (ix2 (⟨n.val - K, hlt⟩ : Fin K) j b).val = (ix2 n j b).val :=
      fun b => Fin.cases (fun h => absurd rfl h) (fun b _ => Fin.cases rfl (fun b => b.elim0) b) b
    have hz : n.val - K + K = n.val := by omega
    have h0 := ha ⟨n.val - K, hlt⟩ j
    rw [if_neg (hK ▸ hn), concatenate_pair_apply_right 0 _ _ h (ix2 n j) rfl rfl (ix2 ⟨n.val - K, hlt⟩ j) hi hz,
      concatenate_pair_apply_right 0 _ _ h (ix2 n j) rfl rfl (ix2 ⟨n.val - K, hlt⟩ j) hi hz, ← hK]
    constructor
    · show e _ * a.2 _ = _
      rw [he, h0.2, ← EReal.coe_mul]
      congr 1
      simp
    · show Ideal.ofBits .f32 0x00000000#32 - e _ * a.1 _ = _
      rw [he, h0.1, ← EReal.coe_mul, Ideal.ofBits_zero_f32, zero_sub, ← EReal.coe_neg]
      congr 1
      simp

theorem embed_rep {cx sx : FVec Ideal S12x256 .f32} {C S : Fin 256 → ℕ → ℝ}
    (hc : ∀ (w : Fin 12) j, cx (ix2 w j) = ((C j w.val : ℝ) : EReal))
    (hs : ∀ (w : Fin 12) j, sx (ix2 w j) = ((S j w.val : ℝ) : EReal)) :
    Rep (K := 4096) (embed cx sx) fun j => gates (C j) (S j) (List.range 12) start := by
  have h1 : Rep (K := 1) ((broadcast S1x256 (Scalar.ofBits (F := Ideal) .f32 0x3F800000#32) : FVec Ideal S1x256 .f32),
      (broadcast S1x256 (Scalar.ofBits (F := Ideal) .f32 0x00000000#32) : FVec Ideal S1x256 .f32))
      (fun j => grown (C j) (S j) 0) := fun n j =>
    ⟨(Ideal.ofBits_one_f32).trans (by simp [grown]), (Ideal.ofBits_zero_f32).trans (by simp [grown])⟩
  have h : Rep (K := 4096) (embed cx sx) fun j => grown (C j) (S j) 12 := by
    unfold embed
    exact
      grow_rep 11 rfl rfl concatenates_S2048x256_S2048x256_S4096x256_d0
        (fun n j => by pointwise [row]; exact hc 0 j) (fun n j => by pointwise [row]; exact hs 0 j) <|
      grow_rep 10 rfl rfl concatenates_S1024x256_S1024x256_S2048x256_d0
        (fun n j => by pointwise [row]; exact hc 1 j) (fun n j => by pointwise [row]; exact hs 1 j) <|
      grow_rep 9 rfl rfl concatenates_S512x256_S512x256_S1024x256_d0
        (fun n j => by pointwise [row]; exact hc 2 j) (fun n j => by pointwise [row]; exact hs 2 j) <|
      grow_rep 8 rfl rfl concatenates_S256x256_S256x256_S512x256_d0
        (fun n j => by pointwise [row]; exact hc 3 j) (fun n j => by pointwise [row]; exact hs 3 j) <|
      grow_rep 7 rfl rfl concatenates_S128x256_S128x256_S256x256_d0
        (fun n j => by pointwise [row]; exact hc 4 j) (fun n j => by pointwise [row]; exact hs 4 j) <|
      grow_rep 6 rfl rfl concatenates_S64x256_S64x256_S128x256_d0
        (fun n j => by pointwise [row]; exact hc 5 j) (fun n j => by pointwise [row]; exact hs 5 j) <|
      grow_rep 5 rfl rfl concatenates_S32x256_S32x256_S64x256_d0
        (fun n j => by pointwise [row]; exact hc 6 j) (fun n j => by pointwise [row]; exact hs 6 j) <|
      grow_rep 4 rfl rfl concatenates_S16x256_S16x256_S32x256_d0
        (fun n j => by pointwise [row]; exact hc 7 j) (fun n j => by pointwise [row]; exact hs 7 j) <|
      grow_rep 3 rfl rfl concatenates_S8x256_S8x256_S16x256_d0
        (fun n j => by pointwise [row]; exact hc 8 j) (fun n j => by pointwise [row]; exact hs 8 j) <|
      grow_rep 2 rfl rfl concatenates_S4x256_S4x256_S8x256_d0
        (fun n j => by pointwise [row]; exact hc 9 j) (fun n j => by pointwise [row]; exact hs 9 j) <|
      grow_rep 1 rfl rfl concatenates_S2x256_S2x256_S4x256_d0
        (fun n j => by pointwise [row]; exact hc 10 j) (fun n j => by pointwise [row]; exact hs 10 j) <|
      grow_rep 0 rfl rfl concatenates_S1x256_S1x256_S2x256_d0
        (fun n j => by pointwise [row]; exact hc 11 j) (fun n j => by pointwise [row]; exact hs 11 j) h1
  refine Rep.congr h fun j n hn => ?_
  rw [embed_eq _ _ n hn, grown_eq _ _ 12 n hn]
  exact Finset.prod_range_reflect (fun w => factor (C j) (S j) w (n / 2 ^ (11 - w) % 2)) 12 ▸
    Finset.prod_congr rfl fun i hi => by
      have := Finset.mem_range.mp hi
      rw [show 12 - 1 - i = 11 - i from rfl, show 11 - (11 - i) = i by omega]

/-! ## The observables -/

theorem weights_apply (w : Fin 12) (n : Fin 4096) :
    (weights : FVec Ideal S12x4096 .f32) (ix2 w n) = ((1 - 2 * ((par w.val n.val : ℕ) : ℝ) : ℝ) : EReal) := by
  have hw := w.isLt
  have hn := n.isLt
  have hsub : IntOp.subi (11#32) (BitVec.ofNat 32 w.val) = BitVec.ofNat 32 (11 - w.val) := by
    generalize w.val = v at *
    interval_cases v <;> rfl
  have hle : ∀ m, pc12 m ≤ 12 := fun m => by unfold pc12; have := pc_le (m / 64); have := pc_le m; omega
  have hd : n.val / 2 ^ (11 - w.val) ≤ n.val := Nat.div_le_self _ _
  have key : ∀ p, p ≤ 13 → IntOp.andi (BitVec.ofNat 32 p) 1#32 = BitVec.ofNat 32 (p % 2) := fun p hp => by
    interval_cases p <;> rfl
  have h0 : n.val / 2 ^ 11 ≤ 1 := by omega
  pointwise [weights, parity]
  rw [hsub, word_shift _ hn (show 11 < 32 by decide), word_shift (s := 11 - w.val) _ hn (by omega), word_count hn, word_count (by omega), word_add,
    key _ (by have := hle n.val; omega), key _ (by have := hle (n.val / 2 ^ (11 - w.val)); omega), select_first _ hw, neg_one_bits]
  have e : (if w.val = 0 then BitVec.ofNat 32 ((pc12 n.val + n.val / 2 ^ 11) % 2)
      else BitVec.ofNat 32 (pc12 (n.val / 2 ^ (11 - w.val)) % 2)) = BitVec.ofNat 32 (par w.val n.val) := by
    unfold par; split <;> rfl
  rw [e]
  have hp : par w.val n.val < 2 := Nat.mod_lt _ (by decide)
  generalize par w.val n.val = p at *
  interval_cases p
  · show ((1 : EReal)) = _
    norm_num
  · show (((-1 : ℝ)) : EReal) = _
    norm_num

theorem readout_apply {a : St Ideal × St Ideal} {ψ : Fin 256 → ℕ → ℂ} (h : Rep a ψ) (W : FVec Ideal S64x12 .f32)
    (b : FVec Ideal S64x1 .f32) (o : Fin 64) (j : Fin 256) : readout W b (probs a) (ix2 o j)
      = ∑ w : Fin 12, W (ix2 o w) * ((measured (ψ j) w.val : ℝ) : EReal) + b (ix2 o 0) := by
  pointwise [readout]
  congr 1
  refine Finset.sum_congr rfl fun w _ => ?_
  congr 1
  rw [measured, ← Fin.sum_univ_eq_sum_range (fun n => (1 - 2 * ((par w.val n : ℕ) : ℝ)) * Complex.normSq (ψ j n)) 4096, coe_sum]
  refine Finset.sum_congr rfl fun n _ => ?_
  rw [weights_apply]
  show _ * (a.1 _ * a.1 _ + a.2 _ * a.2 _) = _
  rw [(h n j).1, (h n j).2, ← EReal.coe_mul, ← EReal.coe_mul, ← EReal.coe_add, ← EReal.coe_mul, Complex.normSq_apply]

end Cert.KernelIdeal.Ops

end
-- ==== Proof.KernelBody.lean ====
/- The body's stored value is `Ops.kern` of its four blocks: unfolding the names on both sides gives one term. -/
module

public import proofs.«01_k».proof.Proof.KernelOps
public import proofs.«01_k».proof.Proof.Gen.KernelIdeal.Value

@[expose] public section

noncomputable section

namespace Cert.KernelIdeal.Ops

open Cert.KernelIdeal Cert.KernelIdeal.Gen Cert.KernelIdeal.Value Idealize.ShloMosaic Idealize.ShloMosaic.TcCoe

variable {F : FTy → Type} [FloatOps F]

set_option maxHeartbeats 4000000 in
set_option maxRecDepth 100000 in
theorem stored_eq (c : Dev nD) (arg1 : Memref sig .tc .vmem S12x256 .f32) (harg1 : arg1.IsWhole)
    (arg2 : Memref sig .tc .vmem S6x12 .f32) (harg2 : arg2.IsWhole) (arg3 : Memref sig .tc .vmem S64x12 .f32) (harg3 : arg3.IsWhole)
    (arg4 : Memref sig .tc .vmem S64x1 .f32) (harg4 : arg4.IsWhole)
    (x0 : Vec F S12x256 .f32) (x1 : Vec F S6x12 .f32) (x2 : Vec F S64x12 .f32) (x3 : Vec F S64x1 .f32) :
    kernelRun0_A.sl.r_151 c arg1 harg1 arg2 harg2 arg3 harg3 arg4 harg4 x0 x1 x2 x3 = kern
      (View.readAt (Elt F) arg1.view (Rect.unit ![0, 0] S12x256.size inb_S12x256_S12x256_0_0).toLoadRect (harg1.unread x0))
      (View.readAt (Elt F) arg2.view (Rect.unit ![0, 0] S6x12.size inb_S6x12_S6x12_0_0).toLoadRect (harg2.unread x1))
      (View.readAt (Elt F) arg3.view (Rect.unit ![0, 0] S64x12.size inb_S64x12_S64x12_0_0).toLoadRect (harg3.unread x2))
      (View.readAt (Elt F) arg4.view (Rect.unit ![0, 0] S64x1.size inb_S64x1_S64x1_0_0).toLoadRect (harg4.unread x3)) := by
  dsimp only [
    kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.r_54,
    kernelRun0_A.sl.r_55, kernelRun0_A.sl.r_56, kernelRun0_A.sl.r_57, kernelRun0_A.sl.r_58, kernelRun0_A.sl.r_59,
    kernelRun0_A.sl.r_60, kernelRun0_A.sl.r_61, kernelRun0_A.sl.r_62, kernelRun0_A.sl.r_63, kernelRun0_A.sl.r_64,
    kernelRun0_A.sl.r_65, kernelRun0_A.sl.r_66, kernelRun0_A.sl.r_67, kernelRun0_A.sl.r_68, kernelRun0_A.sl.r_69,
    kernelRun0_A.sl.r_70, kernelRun0_A.sl.r_71, kernelRun0_A.sl.r_72, kernelRun0_A.sl.r_73, kernelRun0_A.sl.r_74,
    kernelRun0_A.sl.r_75, kernelRun0_A.sl.r_76, kernelRun0_A.sl.r_77, kernelRun0_A.sl.r_78, kernelRun0_A.sl.r_79,
    kernelRun0_A.sl.r_80, kernelRun0_A.sl.r_81, kernelRun0_A.sl.r_82, kernelRun0_A.sl.r_83, kernelRun0_A.sl.r_84,
    kernelRun0_A.sl.r_85, kernelRun0_A.sl.r_86, kernelRun0_A.sl.r_87, kernelRun0_A.sl.r_88, kernelRun0_A.sl.r_89,
    kernelRun0_A.sl.r_90, kernelRun0_A.sl.r_91, kernelRun0_A.sl.r_92, kernelRun0_A.sl.r_93, kernelRun0_A.sl.r_94,
    kernelRun0_A.sl.r_95, kernelRun0_A.sl.r_96, kernelRun0_A.sl.r_97, kernelRun0_A.sl.r_98, kernelRun0_A.sl.r_99,
    kernelRun0_A.sl.r_100, kernelRun0_A.sl.r_101, kernelRun0_A.sl.r_102, kernelRun0_A.sl.r_103, kernelRun0_A.sl.r_104,
    kernelRun0_A.sl.r_105, kernelRun0_A.sl.r_106, kernelRun0_A.sl.r_107, kernelRun0_A.sl.r_108, kernelRun0_A.sl.r_109,
    kernelRun0_A.sl.r_110, kernelRun0_A.sl.r_111, kernelRun0_A.sl.r_112, kernelRun0_A.sl.r_113, kernelRun0_A.sl.r_114,
    kernelRun0_A.sl.r_115, kernelRun0_A.sl.r_116, kernelRun0_A.sl.r_117, kernelRun0_A.sl.r_118, kernelRun0_A.sl.r_119,
    kernelRun0_A.sl.r_120, kernelRun0_A.sl.r_121, kernelRun0_A.sl.r_122, kernelRun0_A.sl.r_123, kernelRun0_A.sl.r_124,
    kernelRun0_A.sl.r_125, kernelRun0_A.sl.r_126, kernelRun0_A.sl.r_127, kernelRun0_A.sl.r_128, kernelRun0_A.sl.r_129,
    kernelRun0_A.sl.r_130, kernelRun0_A.sl.r_131, kernelRun0_A.sl.r_132, kernelRun0_A.sl.r_133, kernelRun0_A.sl.r_134,
    kernelRun0_A.sl.r_135, kernelRun0_A.sl.r_136, kernelRun0_A.sl.r_137, kernelRun0_A.sl.r_138, kernelRun0_A.sl.r_139,
    kernelRun0_A.sl.r_140, kernelRun0_A.sl.r_141, kernelRun0_A.sl.r_142, kernelRun0_A.sl.r_143, kernelRun0_A.sl.r_144,
    kernelRun0_A.sl.r_145, kernelRun0_A.sl.r_146, kernelRun0_A.sl.r_147, kernelRun0_A.sl.r_148, kernelRun0_A.sl.r_149,
    kernelRun0_A.sl.r_150, kernelRun0_A.sl.r_151, kernelRun0_A.sl.v190, kernelRun0_A.sl.v191, kernelRun0_A.sl.v539,
    kernelRun0_A.sl.v540, kernelRun0_A.sl.v541, kernelRun0_A.sl.v542, kernelRun0_A.sl.v543, kernelRun0_A.sl.v544,
    kernelRun0_A.sl.v545, kernelRun0_A.sl.v546, kernelRun0_A.sl.v547, kernelRun0_A.sl.v548, kernelRun0_A.sl.v549,
    kernelRun0_A.sl.v550, kernelRun0_A.sl.v551, kernelRun0_A.sl.v552, kernelRun0_A.sl.v553, kernelRun0_A.sl.v554,
    kernelRun0_A.sl.v555, kernelRun0_A.sl.v556, kernelRun0_A.sl.v557, kernelRun0_A.sl.v558, kernelRun0_A.sl.v559,
    kernelRun0_A.sl.v560, kernelRun0_A.sl.v561, kernelRun0_A.sl.v562, kernelRun0_A.sl.v563, kernelRun0_A.sl.v564,
    kernelRun0_A.sl.v565, kernelRun0_A.sl.v566, kernelRun0_A.sl.v567, kernelRun0_A.sl.v568, kernelRun0_A.sl.v569,
    kernelRun0_A.sl.v570, kernelRun0_A.sl.v571, kernelRun0_A.sl.v572, kernelRun0_A.sl.v573, kernelRun0_A.sl.v574,
    kernelRun0_A.sl.v575, kernelRun0_A.sl.v576, kernelRun0_A.sl.v577, kernelRun0_A.sl.v578, kernelRun0_A.sl.v579,
    kernelRun0_A.sl.v580, kernelRun0_A.sl.v581, kernelRun0_A.sl.v582, kernelRun0_A.sl.v583, kernelRun0_A.sl.v584,
    kernelRun0_A.sl.v585, kernelRun0_A.sl.v586, kernelRun0_A.sl.v587, kernelRun0_A.sl.v588, kernelRun0_A.sl.v589,
    kernelRun0_A.sl.v590, kernelRun0_A.sl.v591, kernelRun0_A.sl.v592, kernelRun0_A.sl.v593, kernelRun0_A.sl.v594,
    kernelRun0_A.sl.v595, kernelRun0_A.sl.v596, kernelRun0_A.sl.v597, kernelRun0_A.sl.v598, kernelRun0_A.sl.v599,
    kernelRun0_A.sl.v600, kernelRun0_A.sl.v601, kernelRun0_A.sl.v602, kernelRun0_A.sl.v603, kernelRun0_A.sl.v604,
    kernelRun0_A.sl.v605, kernelRun0_A.sl.v606, kernelRun0_A.sl.v607, kernelRun0_A.sl.v608, kernelRun0_A.sl.v609,
    kernelRun0_A.sl.v610, kernelRun0_A.sl.v611, kernelRun0_A.sl.v612, kernelRun0_A.sl.v613, kernelRun0_A.sl.v614,
    kernelRun0_A.sl.v615, kernelRun0_A.sl.v616, kernelRun0_A.sl.v617, kernelRun0_A.sl.v618, kernelRun0_A.sl.v619,
    kernelRun0_A.sl.v620, kernelRun0_A.sl.v621, kernelRun0_A.sl.v623, kernelRun0_A.sl.v624, kernelRun0_A.sl.v626,
    kernelRun0_A.sl.v627, kernelRun0_A.sl.v628, kernelRun0_A.sl.v629, kernelRun0_A.sl.v630, kernelRun0_A.sl.v631,
    kernelRun0_A.sl.v632, kernelRun0_A.sl.v633, kernelRun0_A.sl.v634, kernelRun0_A.sl.v635, kernelRun0_A.sl.v638,
    kernelRun0_A.sl.v641, kernelRun0_A.sl.v642, kernelRun0_A.sl.v643, kernelRun0_A.sl.v644, kernelRun0_A.sl.v645,
    kernelRun0_A.sl.v646, kernelRun0_A.sl.v647, kernelRun0_A.sl.v648, kernelRun0_A.sl.v649, kernelRun0_A.sl.v651,
    kernelRun0_A.sl.v652, kernelRun0_A.sl.v655, kernelRun0_A.sl.v656, kernelRun0_A.sl.v657, kernelRun0_A.sl.v658,
    kernelRun0_A.sl.v956, kernelRun0_A.sl.v957, kernelRun0_A.sl.v958, kernelRun0_A.sl.v959, kernelRun0_A.sl.v960,
    kernelRun0_A.sl.v961, kernelRun0_A.sl.v962, kernelRun0_A.sl.v963, kernelRun0_A.sl.v964, kernelRun0_A.sl.v965,
    kernelRun0_A.sl.v966, kernelRun0_A.sl.v967, kernelRun0_A.sl.v968, kernelRun0_A.sl.v969, kernelRun0_A.sl.v970,
    kernelRun0_A.sl.v971, kernelRun0_A.sl.v972, kernelRun0_A.sl.v973, kernelRun0_A.sl.v974, kernelRun0_A.sl.v975,
    kernelRun0_A.sl.v976, kernelRun0_A.sl.v977, kernelRun0_A.sl.v978, kernelRun0_A.sl.v979, kernelRun0_A.sl.v980,
    kernelRun0_A.sl.v981, kernelRun0_A.sl.v982, kernelRun0_A.sl.v983, kernelRun0_A.sl.v984, kernelRun0_A.sl.v985,
    kernelRun0_A.sl.v986, kernelRun0_A.sl.v987, kernelRun0_A.sl.v988, kernelRun0_A.sl.v989, kernelRun0_A.sl.v990,
    kernelRun0_A.sl.v991, kernelRun0_A.sl.v992, kernelRun0_A.sl.v993, kernelRun0_A.sl.v994, kernelRun0_A.sl.v995,
    kernelRun0_A.sl.v996, kernelRun0_A.sl.v997, kernelRun0_A.sl.v998, kernelRun0_A.sl.v999, kernelRun0_A.sl.v1000,
    kernelRun0_A.sl.v1001, kernelRun0_A.sl.v1002, kernelRun0_A.sl.v1003, kernelRun0_A.sl.v1004, kernelRun0_A.sl.v1005,
    kernelRun0_A.sl.v1006, kernelRun0_A.sl.v1007, kernelRun0_A.sl.v1008, kernelRun0_A.sl.v1009, kernelRun0_A.sl.v1010,
    kernelRun0_A.sl.v1011, kernelRun0_A.sl.v1012, kernelRun0_A.sl.v1013, kernelRun0_A.sl.v1014, kernelRun0_A.sl.v1015,
    kernelRun0_A.sl.v1016, kernelRun0_A.sl.v1017, kernelRun0_A.sl.v1018, kernelRun0_A.sl.v1019, kernelRun0_A.sl.v1020,
    kernelRun0_A.sl.v1021, kernelRun0_A.sl.v1022, kernelRun0_A.sl.v1023, kernelRun0_A.sl.v1024, kernelRun0_A.sl.v1025,
    kernelRun0_A.sl.v1026, kernelRun0_A.sl.v1027, kernelRun0_A.sl.v1028, kernelRun0_A.sl.v1029, kernelRun0_A.sl.v1030,
    kernelRun0_A.sl.v1031, kernelRun0_A.sl.v1032, kernelRun0_A.sl.v1033, kernelRun0_A.sl.v1034, kernelRun0_A.sl.v1035,
    kernelRun0_A.sl.v1036, kernelRun0_A.sl.v1037, kernelRun0_A.sl.v1038, kernelRun0_A.sl.v1039, kernelRun0_A.sl.v1040,
    kernelRun0_A.sl.v1041, kernelRun0_A.sl.v1042, kernelRun0_A.sl.v1043, kernelRun0_A.sl.v1044, kernelRun0_A.sl.v1045,
    kernelRun0_A.sl.v1046, kernelRun0_A.sl.v1047, kernelRun0_A.sl.v1048, kernelRun0_A.sl.v1049, kernelRun0_A.sl.v1050,
    kernelRun0_A.sl.v1051, kernelRun0_A.sl.v1052, kernelRun0_A.sl.v1053, kernelRun0_A.sl.v1056, kernelRun0_A.sl.v1059,
    kernelRun0_A.sl.v1060, kernelRun0_A.sl.v1061, kernelRun0_A.sl.v1062, kernelRun0_A.sl.v1063, kernelRun0_A.sl.v1064,
    kernelRun0_A.sl.v1065, kernelRun0_A.sl.v1066, kernelRun0_A.sl.v1067, kernelRun0_A.sl.v1070, kernelRun0_A.sl.v1073,
    kernelRun0_A.sl.v1074, kernelRun0_A.sl.v1075, kernelRun0_A.sl.v1076, kernelRun0_A.sl.v1077, kernelRun0_A.sl.v1078,
    kernelRun0_A.sl.v1079, kernelRun0_A.sl.v1080, kernelRun0_A.sl.v1081, kernelRun0_A.sl.v1084, kernelRun0_A.sl.v1087,
    kernelRun0_A.sl.v1088, kernelRun0_A.sl.v1089, kernelRun0_A.sl.v1090, kernelRun0_A.sl.v1091, kernelRun0_A.sl.v1092,
    kernelRun0_A.sl.v1093, kernelRun0_A.sl.v1094, kernelRun0_A.sl.v1095, kernelRun0_A.sl.v1098, kernelRun0_A.sl.v1101,
    kernelRun0_A.sl.v1102, kernelRun0_A.sl.v1103, kernelRun0_A.sl.v1104, kernelRun0_A.sl.v1105, kernelRun0_A.sl.v1106,
    kernelRun0_A.sl.v1107, kernelRun0_A.sl.v1108, kernelRun0_A.sl.v1111, kernelRun0_A.sl.v1112, kernelRun0_A.sl.v1113,
    kernelRun0_A.sl.v1114, kernelRun0_A.sl.v1115, kernelRun0_A.sl.v1116, kernelRun0_A.sl.v1117, kernelRun0_A.sl.v1118,
    kernelRun0_A.sl.v1121, kernelRun0_A.sl.v1122, kernelRun0_A.sl.v1123, kernelRun0_A.sl.v1124, kernelRun0_A.sl.v1125,
    kernelRun0_A.sl.v1126, kernelRun0_A.sl.v1127, kernelRun0_A.sl.v1128, kernelRun0_A.sl.v1129, kernelRun0_A.sl.v1130,
    kernelRun0_A.sl.v1131, kernelRun0_A.sl.v1132, kernelRun0_A.sl.v1133, kernelRun0_A.sl.v1134, kernelRun0_A.sl.v1135,
    kernelRun0_A.sl.v1373, kernelRun0_A.sl.v1374, kernelRun0_A.sl.v1375, kernelRun0_A.sl.v1376, kernelRun0_A.sl.v1377,
    kernelRun0_A.sl.v1378, kernelRun0_A.sl.v1379, kernelRun0_A.sl.v1380, kernelRun0_A.sl.v1381, kernelRun0_A.sl.v1382,
    kernelRun0_A.sl.v1383, kernelRun0_A.sl.v1384, kernelRun0_A.sl.v1385, kernelRun0_A.sl.v1386, kernelRun0_A.sl.v1387,
    kernelRun0_A.sl.v1388, kernelRun0_A.sl.v1389, kernelRun0_A.sl.v1390, kernelRun0_A.sl.v1391, kernelRun0_A.sl.v1392,
    kernelRun0_A.sl.v1393, kernelRun0_A.sl.v1394, kernelRun0_A.sl.v1395, kernelRun0_A.sl.v1396, kernelRun0_A.sl.v1397,
    kernelRun0_A.sl.v1398, kernelRun0_A.sl.v1399, kernelRun0_A.sl.v1400, kernelRun0_A.sl.v1401, kernelRun0_A.sl.v1402,
    kernelRun0_A.sl.v1403, kernelRun0_A.sl.v1404, kernelRun0_A.sl.v1405, kernelRun0_A.sl.v1406, kernelRun0_A.sl.v1407,
    kernelRun0_A.sl.v1408, kernelRun0_A.sl.v1409, kernelRun0_A.sl.v1410, kernelRun0_A.sl.v1411, kernelRun0_A.sl.v1412,
    kernelRun0_A.sl.v1413, kernelRun0_A.sl.v1414, kernelRun0_A.sl.v1415, kernelRun0_A.sl.v1416, kernelRun0_A.sl.v1417,
    kernelRun0_A.sl.v1418, kernelRun0_A.sl.v1419, kernelRun0_A.sl.v1420, kernelRun0_A.sl.v1421, kernelRun0_A.sl.v1422,
    kernelRun0_A.sl.v1423, kernelRun0_A.sl.v1424, kernelRun0_A.sl.v1425, kernelRun0_A.sl.v1426, kernelRun0_A.sl.v1427,
    kernelRun0_A.sl.v1428, kernelRun0_A.sl.v1429, kernelRun0_A.sl.v1430, kernelRun0_A.sl.v1431, kernelRun0_A.sl.v1432,
    kernelRun0_A.sl.v1433, kernelRun0_A.sl.v1434, kernelRun0_A.sl.v1435, kernelRun0_A.sl.v1436, kernelRun0_A.sl.v1437,
    kernelRun0_A.sl.v1438, kernelRun0_A.sl.v1439, kernelRun0_A.sl.v1440, kernelRun0_A.sl.v1441, kernelRun0_A.sl.v1442,
    kernelRun0_A.sl.v1443, kernelRun0_A.sl.v1444, kernelRun0_A.sl.v1445, kernelRun0_A.sl.v1446, kernelRun0_A.sl.v1447,
    kernelRun0_A.sl.v1448, kernelRun0_A.sl.v1449, kernelRun0_A.sl.v1450, kernelRun0_A.sl.v1451, kernelRun0_A.sl.v1452,
    kernelRun0_A.sl.v1453, kernelRun0_A.sl.v1454, kernelRun0_A.sl.v1455, kernelRun0_A.sl.v1456, kernelRun0_A.sl.v1457,
    kernelRun0_A.sl.v1458, kernelRun0_A.sl.v1459, kernelRun0_A.sl.v1460, kernelRun0_A.sl.v1461, kernelRun0_A.sl.v1462,
    kernelRun0_A.sl.v1463, kernelRun0_A.sl.v1464, kernelRun0_A.sl.v1465, kernelRun0_A.sl.v1466, kernelRun0_A.sl.v1467,
    kernelRun0_A.sl.v1468, kernelRun0_A.sl.v1469, kernelRun0_A.sl.v1470, kernelRun0_A.sl.v1471, kernelRun0_A.sl.v1472,
    kernelRun0_A.sl.v1473, kernelRun0_A.sl.v1474, kernelRun0_A.sl.v1475, kernelRun0_A.sl.v1476, kernelRun0_A.sl.v1477,
    kernelRun0_A.sl.v1478, kernelRun0_A.sl.v1479, kernelRun0_A.sl.v1480, kernelRun0_A.sl.v1481, kernelRun0_A.sl.v1482,
    kernelRun0_A.sl.v1483, kernelRun0_A.sl.v1484, kernelRun0_A.sl.v1485, kernelRun0_A.sl.v1488, kernelRun0_A.sl.v1491,
    kernelRun0_A.sl.v1492, kernelRun0_A.sl.v1493, kernelRun0_A.sl.v1494, kernelRun0_A.sl.v1495, kernelRun0_A.sl.v1496,
    kernelRun0_A.sl.v1497, kernelRun0_A.sl.v1498, kernelRun0_A.sl.v1499, kernelRun0_A.sl.v1502, kernelRun0_A.sl.v1505,
    kernelRun0_A.sl.v1506, kernelRun0_A.sl.v1507, kernelRun0_A.sl.v1508, kernelRun0_A.sl.v1509, kernelRun0_A.sl.v1510,
    kernelRun0_A.sl.v1511, kernelRun0_A.sl.v1512, kernelRun0_A.sl.v1513, kernelRun0_A.sl.v1516, kernelRun0_A.sl.v1519,
    kernelRun0_A.sl.v1520, kernelRun0_A.sl.v1521, kernelRun0_A.sl.v1522, kernelRun0_A.sl.v1523, kernelRun0_A.sl.v1524,
    kernelRun0_A.sl.v1525, kernelRun0_A.sl.v1526, kernelRun0_A.sl.v1527, kernelRun0_A.sl.v1530, kernelRun0_A.sl.v1533,
    kernelRun0_A.sl.v1534, kernelRun0_A.sl.v1535, kernelRun0_A.sl.v1536, kernelRun0_A.sl.v1537, kernelRun0_A.sl.v1538,
    kernelRun0_A.sl.v1539, kernelRun0_A.sl.v1540, kernelRun0_A.sl.v1543, kernelRun0_A.sl.v1544, kernelRun0_A.sl.v1545,
    kernelRun0_A.sl.v1546, kernelRun0_A.sl.v1547, kernelRun0_A.sl.v1548, kernelRun0_A.sl.v1549, kernelRun0_A.sl.v1550,
    kernelRun0_A.sl.v1850, kernelRun0_A.sl.v1851, kernelRun0_A.sl.v1852, kernelRun0_A.sl.v1853, kernelRun0_A.sl.v1854,
    kernelRun0_A.sl.v1855, kernelRun0_A.sl.v1856, kernelRun0_A.sl.v1857, kernelRun0_A.sl.v1858, kernelRun0_A.sl.v1859,
    kernelRun0_A.sl.v1860, kernelRun0_A.sl.v1861, kernelRun0_A.sl.v1862, kernelRun0_A.sl.v1863, kernelRun0_A.sl.v1864,
    kernelRun0_A.sl.v1865, kernelRun0_A.sl.v1866, kernelRun0_A.sl.v1867, kernelRun0_A.sl.v1868, kernelRun0_A.sl.v1869,
    kernelRun0_A.sl.v1870, kernelRun0_A.sl.v1871, kernelRun0_A.sl.v1872, kernelRun0_A.sl.v1873, kernelRun0_A.sl.v1874,
    kernelRun0_A.sl.v1875, kernelRun0_A.sl.v1876, kernelRun0_A.sl.v1877, kernelRun0_A.sl.v1878, kernelRun0_A.sl.v1879,
    kernelRun0_A.sl.v1880, kernelRun0_A.sl.v1881, kernelRun0_A.sl.v1882, kernelRun0_A.sl.v1883, kernelRun0_A.sl.v1884,
    kernelRun0_A.sl.v1885, kernelRun0_A.sl.v1886, kernelRun0_A.sl.v1887, kernelRun0_A.sl.v1888, kernelRun0_A.sl.v1889,
    kernelRun0_A.sl.v1890, kernelRun0_A.sl.v1891, kernelRun0_A.sl.v1892, kernelRun0_A.sl.v1893, kernelRun0_A.sl.v1894,
    kernelRun0_A.sl.v1895, kernelRun0_A.sl.v1896, kernelRun0_A.sl.v1897, kernelRun0_A.sl.v1898, kernelRun0_A.sl.v1899,
    kernelRun0_A.sl.v1900, kernelRun0_A.sl.v1901, kernelRun0_A.sl.v1902, kernelRun0_A.sl.v1903, kernelRun0_A.sl.v1904,
    kernelRun0_A.sl.v1905, kernelRun0_A.sl.v1906, kernelRun0_A.sl.v1907, kernelRun0_A.sl.v1908, kernelRun0_A.sl.v1909,
    kernelRun0_A.sl.v1910, kernelRun0_A.sl.v1911, kernelRun0_A.sl.v1912, kernelRun0_A.sl.v1913, kernelRun0_A.sl.v1914,
    kernelRun0_A.sl.v1915, kernelRun0_A.sl.v1916, kernelRun0_A.sl.v1917, kernelRun0_A.sl.v1920, kernelRun0_A.sl.v1923,
    kernelRun0_A.sl.v1924, kernelRun0_A.sl.v1925, kernelRun0_A.sl.v1926, kernelRun0_A.sl.v1927, kernelRun0_A.sl.v1928,
    kernelRun0_A.sl.v1929, kernelRun0_A.sl.v1930, kernelRun0_A.sl.v1931, kernelRun0_A.sl.v1934, kernelRun0_A.sl.v1937,
    kernelRun0_A.sl.v1938, kernelRun0_A.sl.v1939, kernelRun0_A.sl.v1940, kernelRun0_A.sl.v1941, kernelRun0_A.sl.v1942,
    kernelRun0_A.sl.v1943, kernelRun0_A.sl.v1944, kernelRun0_A.sl.v1945, kernelRun0_A.sl.v1948, kernelRun0_A.sl.v1951,
    kernelRun0_A.sl.v1952, kernelRun0_A.sl.v1953, kernelRun0_A.sl.v1954, kernelRun0_A.sl.v1955, kernelRun0_A.sl.v1956,
    kernelRun0_A.sl.v1957, kernelRun0_A.sl.v1958, kernelRun0_A.sl.v1959, kernelRun0_A.sl.v1962, kernelRun0_A.sl.v1965,
    kernelRun0_A.sl.v1966, kernelRun0_A.sl.v1967, kernelRun0_A.sl.v1968, kernelRun0_A.sl.v1969, kernelRun0_A.sl.v2267,
    kernelRun0_A.sl.v2268, kernelRun0_A.sl.v2269, kernelRun0_A.sl.v2270, kernelRun0_A.sl.v2271, kernelRun0_A.sl.v2272,
    kernelRun0_A.sl.v2273, kernelRun0_A.sl.v2274, kernelRun0_A.sl.v2275, kernelRun0_A.sl.v2276, kernelRun0_A.sl.v2277,
    kernelRun0_A.sl.v2278, kernelRun0_A.sl.v2279, kernelRun0_A.sl.v2280, kernelRun0_A.sl.v2281, kernelRun0_A.sl.v2282,
    kernelRun0_A.sl.v2283, kernelRun0_A.sl.v2284, kernelRun0_A.sl.v2285, kernelRun0_A.sl.v2286, kernelRun0_A.sl.v2287,
    kernelRun0_A.sl.v2288, kernelRun0_A.sl.v2289, kernelRun0_A.sl.v2290, kernelRun0_A.sl.v2291, kernelRun0_A.sl.v2292,
    kernelRun0_A.sl.v2293, kernelRun0_A.sl.v2294, kernelRun0_A.sl.v2295, kernelRun0_A.sl.v2296, kernelRun0_A.sl.v2297,
    kernelRun0_A.sl.v2298, kernelRun0_A.sl.v2299, kernelRun0_A.sl.v2300, kernelRun0_A.sl.v2301, kernelRun0_A.sl.v2302,
    kernelRun0_A.sl.v2303, kernelRun0_A.sl.v2304, kernelRun0_A.sl.v2305, kernelRun0_A.sl.v2306, kernelRun0_A.sl.v2307,
    kernelRun0_A.sl.v2308, kernelRun0_A.sl.v2309, kernelRun0_A.sl.v2310, kernelRun0_A.sl.v2311, kernelRun0_A.sl.v2312,
    kernelRun0_A.sl.v2313, kernelRun0_A.sl.v2314, kernelRun0_A.sl.v2315, kernelRun0_A.sl.v2316, kernelRun0_A.sl.v2317,
    kernelRun0_A.sl.v2318, kernelRun0_A.sl.v2319, kernelRun0_A.sl.v2320, kernelRun0_A.sl.v2321, kernelRun0_A.sl.v2322,
    kernelRun0_A.sl.v2323, kernelRun0_A.sl.v2324, kernelRun0_A.sl.v2325, kernelRun0_A.sl.v2326, kernelRun0_A.sl.v2327,
    kernelRun0_A.sl.v2328, kernelRun0_A.sl.v2329, kernelRun0_A.sl.v2330, kernelRun0_A.sl.v2331, kernelRun0_A.sl.v2332,
    kernelRun0_A.sl.v2333, kernelRun0_A.sl.v2334, kernelRun0_A.sl.v2335, kernelRun0_A.sl.v2336, kernelRun0_A.sl.v2337,
    kernelRun0_A.sl.v2338, kernelRun0_A.sl.v2339, kernelRun0_A.sl.v2340, kernelRun0_A.sl.v2341, kernelRun0_A.sl.v2342,
    kernelRun0_A.sl.v2343, kernelRun0_A.sl.v2344, kernelRun0_A.sl.v2345, kernelRun0_A.sl.v2346, kernelRun0_A.sl.v2347,
    kernelRun0_A.sl.v2348, kernelRun0_A.sl.v2349, kernelRun0_A.sl.v2352, kernelRun0_A.sl.v2355, kernelRun0_A.sl.v2356,
    kernelRun0_A.sl.v2357, kernelRun0_A.sl.v2358, kernelRun0_A.sl.v2359, kernelRun0_A.sl.v2360, kernelRun0_A.sl.v2361,
    kernelRun0_A.sl.v2362, kernelRun0_A.sl.v2363, kernelRun0_A.sl.v2366, kernelRun0_A.sl.v2369, kernelRun0_A.sl.v2370,
    kernelRun0_A.sl.v2371, kernelRun0_A.sl.v2372, kernelRun0_A.sl.v2373, kernelRun0_A.sl.v2374, kernelRun0_A.sl.v2375,
    kernelRun0_A.sl.v2376, kernelRun0_A.sl.v2377, kernelRun0_A.sl.v2380, kernelRun0_A.sl.v2383, kernelRun0_A.sl.v2384,
    kernelRun0_A.sl.v2385, kernelRun0_A.sl.v2386, k0_pay1, k0_pay2, k0_pay3, k0_pay4, k0_pay5, k0_pay6, k0_pay7, k0_pay8,
    k0_pay9, k0_pay10, k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74, k0_pay75,
    k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118,
    k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138,
    k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187, k0_pay188,
    k0_pay189, k0_pay190, k0_pay191, k0_pay192, k0_pay193, k0_pay194, k0_pay195, k0_pay196, k0_pay197, k0_pay198,
    k0_pay199, k0_pay200, k0_pay201, k0_pay202, k0_pay203, k0_pay204, k0_pay205, k0_pay206, k0_pay207, k0_pay208,
    k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227, k0_pay228,
    k0_pay229, k0_pay230, k0_pay231, k0_pay232, k0_pay233, k0_pay234, k0_pay235, k0_pay236, k0_pay237, k0_pay238,
    k0_pay239, k0_pay240, k0_pay241, k0_pay242, k0_pay243, k0_pay244, k0_pay245, k0_pay246, k0_pay247, k0_pay248,
    k0_pay249, k0_pay250, k0_pay251, k0_pay252, k0_pay253, k0_pay254, k0_pay255, k0_pay256, k0_pay257, k0_pay258,
    k0_pay259, k0_pay260, k0_pay261, k0_pay262, k0_pay263, k0_pay264, k0_pay265, k0_pay266, k0_pay267, k0_pay268,
    k0_pay269, k0_pay270, k0_pay271, k0_pay272, k0_pay273, k0_pay274, k0_pay275, k0_pay276, k0_pay277, k0_pay278,
    k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, k0_pay297, k0_pay298,
    k0_pay299, k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317, k0_pay318,
    k0_pay319, k0_pay320, k0_pay321, k0_pay322, k0_pay323, k0_pay324, k0_pay325, k0_pay326, k0_pay327, k0_pay328,
    k0_pay329, k0_pay330, k0_pay331, k0_pay332, k0_pay333, k0_pay334, k0_pay335, k0_pay336, k0_pay337, k0_pay338,
    k0_pay339, k0_pay340, k0_pay341, k0_pay342, k0_pay343, k0_pay344, k0_pay345, k0_pay346, k0_pay347, k0_pay348,
    k0_pay349, k0_pay350, k0_pay351, k0_pay352, k0_pay353, to8, of8, flip5, flip4, flip3, flip2, mask, wide, roll2, roll1,
    flip1, flip0, ang, rx, low, rowI, colI, differ, sgn, part, matrix, count, odd, second, pick, turn, times, high, cnot0,
    cnot1, cnot2, cnot3, cnot4, cnot5, cnot6, cnot7, cnot8, cnot9, cnot10, cnot11, cnots, layer, grow, row, embed, parity,
    halves, final, states, probs, weights, readout, kern]

theorem hz : (![0, 0] : Fin 2 → Nat) = fun _ => 0 := funext fun a => by fin_cases a <;> rfl

/-- What a run leaves in the result's buffer. -/
theorem out_eq (c : Dev nD) (i : grid0.Coords) (arg1 : Memref sig .tc .vmem S12x256 .f32) (harg1 : arg1.IsWhole)
    (arg2 : Memref sig .tc .vmem S6x12 .f32) (harg2 : arg2.IsWhole) (arg3 : Memref sig .tc .vmem S64x12 .f32) (harg3 : arg3.IsWhole)
    (arg4 : Memref sig .tc .vmem S64x1 .f32) (harg4 : arg4.IsWhole) (arg5 : Memref sig .tc .vmem S64x256 .f32) (harg5 : arg5.IsWhole)
    (arg6 : Memref sig .tc .vmem S8x128 .f32) (harg6 : arg6.IsWhole)
    (x0 : Vec F S12x256 .f32) (x1 : Vec F S6x12 .f32) (x2 : Vec F S64x12 .f32) (x3 : Vec F S64x1 .f32) :
    out0_A_4 c i arg1 harg1 arg2 harg2 arg3 harg3 arg4 harg4 arg5 harg5 arg6 harg6 x0 x1 x2 x3 = kern x0 x1 x2 x3 := by
  unfold out0_A_4
  rw [View.read_writes_junk_eq_canon]
  show View.canon ([⟨Rect.unit ![0, 0] S64x256.size inb_S64x256_S64x256_0_0,
      kernelRun0_A.sl.r_151 c arg1 harg1 arg2 harg2 arg3 harg3 arg4 harg4 x0 x1 x2 x3⟩] :
      List (View.Piece (Elt F) S64x256 .f32)) = _
  rw [View.canon_unit_zero hz, stored_eq, View.readAt_eq_ld, View.readAt_eq_ld, View.readAt_eq_ld, View.readAt_eq_ld,
    harg1.read_unread, harg2.read_unread, harg3.read_unread, harg4.read_unread, View.ld_unit_zero hz, View.ld_unit_zero hz,
    View.ld_unit_zero hz, View.ld_unit_zero hz]

end Cert.KernelIdeal.Ops

end
-- ==== Proof.KernelRun.lean ====
/- The kernel's result array as a whole: at each grid point the body's value on its columns is the circuit's. -/
module

public import proofs.«01_k».proof.Proof.KernelValue
public import proofs.«01_k».proof.Proof.KernelBody
public import Idealize.ShloMosaic.Lib.Claim

@[expose] public section

noncomputable section

namespace Cert.KernelIdeal.Ops

open Cert.KernelIdeal Cert.KernelIdeal.Gen Cert.KernelIdeal.Value Idealize.ShloMosaic Idealize.ShloMosaic.TcCoe Idealize.SL.Sem
open Cert.Words

theorem cos_halves {s : Shape} (t : FVec Ideal s .f32) (i : s.Idx) (r : ℝ) (h : t i = (r : EReal)) :
    Idealize.ShloMosaic.cos (halves t) i = ((Real.cos (r / 2) : ℝ) : EReal) := by
  show Ideal.cos ((t i : EReal) * Ideal.ofBits .f32 0x3F000000#32) = _
  rw [h, half_bits, ← EReal.coe_mul, Ideal.cos_coe, show r * (1 / 2) = r / 2 by ring]

theorem sin_halves {s : Shape} (t : FVec Ideal s .f32) (i : s.Idx) (r : ℝ) (h : t i = (r : EReal)) :
    Idealize.ShloMosaic.sin (halves t) i = ((Real.sin (r / 2) : ℝ) : EReal) := by
  show Ideal.sin ((t i : EReal) * Ideal.ofBits .f32 0x3F000000#32) = _
  rw [h, half_bits, ← EReal.coe_mul, Ideal.sin_coe, show r * (1 / 2) = r / 2 by ring]

/-- The body's value at column `j`, whose angles are `θ j`. -/
theorem kern_apply (x : FVec Ideal S12x256 .f32) (q : FVec Ideal S6x12 .f32) (W : FVec Ideal S64x12 .f32) (b : FVec Ideal S64x1 .f32)
    (θ : Fin 256 → ℕ → ℝ) (hx : ∀ (w : Fin 12) (j : Fin 256), x (ix2 w j) = ((θ j w.val : ℝ) : EReal))
    (hq : ∀ (j : Fin 256) (l : Fin 6) (w : Fin 12), q (ix2 l w) = ((θ j (12 * l.val + 12 + w.val) : ℝ) : EReal))
    (o : Fin 64) (j : Fin 256) : kern x q W b (ix2 o j)
      = ∑ w : Fin 12, W (ix2 o w) * ((Circuit.observed (θ j) w.val : ℝ) : EReal) + b (ix2 o 0) := by
  have hqc : Table (Idealize.ShloMosaic.cos (halves q)) fun l w => Circuit.cosines (θ j) (12 * l + 12 + w) :=
    fun l w => cos_halves q _ _ (hq j l w)
  have hqs : Table (Idealize.ShloMosaic.sin (halves q)) fun l w => Circuit.sines (θ j) (12 * l + 12 + w) :=
    fun l w => sin_halves q _ _ (hq j l w)
  have hxc : ∀ (w : Fin 12) (k : Fin 256), Idealize.ShloMosaic.cos (halves (shapeCast S12x256 x shapeCasts_S12x256_S12x256)) (ix2 w k)
      = ((Circuit.cosines (θ k) w.val : ℝ) : EReal) := fun w k => cos_halves _ _ _ (by rw [shapeCast_id]; exact hx w k)
  have hxs : ∀ (w : Fin 12) (k : Fin 256), Idealize.ShloMosaic.sin (halves (shapeCast S12x256 x shapeCasts_S12x256_S12x256)) (ix2 w k)
      = ((Circuit.sines (θ k) w.val : ℝ) : EReal) := fun w k => sin_halves _ _ _ (by rw [shapeCast_id]; exact hx w k)
  exact readout_apply (final_rep hqc hqs (states_rep hqc hqs (embed_rep hxc hxs))) W b o j

/-! ## The windows -/

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)

theorem points : cfg0.N = 2 := by decide +kernel

/-- Column `j` of block `t`, in the whole array. -/
def col (t : Fin cfg0.N) (j : Fin 256) : Fin 512 :=
  ⟨t.val * 256 + j.val, by have h := lt_of_lt_of_eq t.isLt points; omega⟩

variable (m : (ℓ : Loc nD τ sig) → Buf (Elt Ideal) ℓ) (c : Dev nD)

theorem iblk0_apply (t : Fin cfg0.N) (w : Fin 12) (j : Fin 256) :
    (iblk m c 0 t : FVec Ideal S12x256 .f32) (ix2 w j) = (V m c main_v0 : FVec Ideal S12x512 .f32) (ix2 w (col t j)) := by
  obtain ⟨e0, e1⟩ := idx0 t
  show (V m c main_v0 : FVec Ideal S12x512 .f32) (((cfg0.win 0).blk t).view.emb (ix2 w j)) = _
  refine congrArg (V m c main_v0 : FVec Ideal S12x512 .f32) (funext fun a => Fin.ext ?_)
  match a with
  | ⟨0, _⟩ => show win0_0.index t (0 : Fin 2) * 12 + 1 * w.val = w.val; omega
  | ⟨1, _⟩ => show win0_0.index t (1 : Fin 2) * 256 + 1 * j.val = t.val * 256 + j.val; omega

theorem emb1 (t : Fin cfg0.N) (j : S6x12.Idx) : ((cfg0.win 1).blk t).view.emb j = j := by
  obtain ⟨e0, e1⟩ := idx1 t
  funext a; apply Fin.ext
  match a with
  | ⟨0, _⟩ => show win0_1.index t (0 : Fin 2) * 6 + 1 * (j 0).val = (j 0).val; omega
  | ⟨1, _⟩ => show win0_1.index t (1 : Fin 2) * 12 + 1 * (j 1).val = (j 1).val; omega

theorem emb2 (t : Fin cfg0.N) (j : S64x12.Idx) : ((cfg0.win 2).blk t).view.emb j = j := by
  obtain ⟨e0, e1⟩ := idx2 t
  funext a; apply Fin.ext
  match a with
  | ⟨0, _⟩ => show win0_2.index t (0 : Fin 2) * 64 + 1 * (j 0).val = (j 0).val; omega
  | ⟨1, _⟩ => show win0_2.index t (1 : Fin 2) * 12 + 1 * (j 1).val = (j 1).val; omega

theorem emb3 (t : Fin cfg0.N) (j : S64x1.Idx) : ((cfg0.win 3).blk t).view.emb j = j := by
  obtain ⟨e0, e1⟩ := idx3 t
  funext a; apply Fin.ext
  match a with
  | ⟨0, _⟩ => show win0_3.index t (0 : Fin 2) * 64 + 1 * (j 0).val = (j 0).val; omega
  | ⟨1, _⟩ => show win0_3.index t (1 : Fin 2) * 1 + 1 * (j 1).val = (j 1).val; omega

theorem emb4 (t : Fin cfg0.N) (o : Fin 64) (j : Fin 256) :
    ((cfg0.win 4).blk t).view.emb (ix2 o j : S64x256.Idx) = (ix2 o (col t j) : S64x512.Idx) := by
  obtain ⟨e0, e1⟩ := idx4 t
  funext a; apply Fin.ext
  match a with
  | ⟨0, _⟩ => show win0_4.index t (0 : Fin 2) * 64 + 1 * o.val = o.val; omega
  | ⟨1, _⟩ => show win0_4.index t (1 : Fin 2) * 256 + 1 * j.val = t.val * 256 + j.val; omega

theorem iblk1_eq (t : Fin cfg0.N) : iblk m c 1 t = V m c main_arg1 := by
  funext j; show V m c main_arg1 (((cfg0.win 1).blk t).view.emb j) = V m c main_arg1 j; rw [emb1]
theorem iblk2_eq (t : Fin cfg0.N) : iblk m c 2 t = V m c main_arg2 := by
  funext j; show V m c main_arg2 (((cfg0.win 2).blk t).view.emb j) = V m c main_arg2 j; rw [emb2]
theorem iblk3_eq (t : Fin cfg0.N) : iblk m c 3 t = V m c main_v1 := by
  funext j; show V m c main_v1 (((cfg0.win 3).blk t).view.emb j) = V m c main_v1 j; rw [emb3]

/-! ## The operands the host makes -/

theorem V_v0 : V m c main_v0 = transpose S12x512 [1, 0] (m ((c.tc : Thread nD τ).loc main_arg0)) transposes_S512x12_S12x512_1_0 := by
  entry_read
  rfl

theorem V_v1 : V m c main_v1 = shapeCast S64x1 (m ((c.tc : Thread nD τ).loc main_arg3) : FVec Ideal S64 .f32) shapeCasts_S64_S64x1 := by
  entry_read
  rfl

theorem turned (x : FVec Ideal S512x12 .f32) (w : Fin 12) (b : Fin 512) :
    transpose S12x512 [1, 0] x transposes_S512x12_S12x512_1_0 (ix2 w b) = x (ix2 b w) := by
  pointwise []

theorem column (b : FVec Ideal S64 .f32) (o : Fin 64) : shapeCast S64x1 b shapeCasts_S64_S64x1 (ix2 o (0 : Fin 1)) = b (ix1 o) := by
  pointwise []
  try exact congrArg b (congrArg ix1 (Fin.ext (by dsimp only; omega)))

/-! ## The result -/

/-- The result array, of the arguments. -/
def G : FVec Ideal S64x512 .f32 := fun i => Circuit.value (m ((c.tc : Thread nD τ).loc main_arg0))
  (m ((c.tc : Thread nD τ).loc main_arg1)) (m ((c.tc : Thread nD τ).loc main_arg2)) (m ((c.tc : Thread nD τ).loc main_arg3)) (i 0) (i 1)

section Finite

variable (hX : Circuit.AllReal (n := 512) (k := 12) (m ((c.tc : Thread nD τ).loc main_arg0)))
    (hQ : Circuit.AllReal (n := 6) (k := 12) (m ((c.tc : Thread nD τ).loc main_arg1)))

include hX hQ in
theorem block_apply (t : Fin cfg0.N) (o : Fin 64) (j : Fin 256) :
    kern (iblk m c 0 t) (iblk m c 1 t) (iblk m c 2 t) (iblk m c 3 t) (ix2 o j) = G m c (ix2 o (col t j)) := by
  rw [iblk1_eq, iblk2_eq, iblk3_eq, V_main_arg1, V_main_arg2, V_v1]
  refine (kern_apply (iblk m c 0 t) _ _ _
    (fun k => Circuit.angles (m ((c.tc : Thread nD τ).loc main_arg0)) (m ((c.tc : Thread nD τ).loc main_arg1)) (col t k)) ?_ ?_ o j).trans ?_
  · intro w k
    rw [iblk0_apply, V_v0, Circuit.angles_input]
    exact (turned _ w _).trans (hX.eq _ w)
  · intro k l w
    rw [Circuit.angles_layer]
    exact hQ.eq l w
  · rw [column]
    rfl

include hX hQ in
theorem block_eq (t : Fin cfg0.N) (j : S64x256.Idx) : kern (iblk m c 0 t) (iblk m c 1 t) (iblk m c 2 t) (iblk m c 3 t) j
    = G m c (((cfg0.win 4).blk t).view.emb j) := by
  obtain ⟨o, k, rfl⟩ : ∃ (o : Fin 64) (k : Fin 256), j = ix2 o k := ⟨j 0, j 1, eq_ix2 j⟩
  exact (block_apply m c hX hQ t o k).trans (congrArg (G m c) (emb4 t o k).symm)

include hX hQ in
theorem flushed_eq (t : Fin cfg0.N) : (dats m 0 c).flushed 4 t = ((cfg0.win 4).blk t).view.read (Elt Ideal) (G m c) := by
  rw [flushed4_A, out_eq]
  funext j
  exact block_eq m c hX hQ t j

theorem mem_block (t : Fin cfg0.N) (o : Fin 64) (k : Fin 256) :
    (ix2 o (col t k) : S64x512.Idx) ∈ ((cfg0.win 4).blk t).view.set := by
  have h := ((cfg0.win 4).blk t).view.emb_mem_set (ix2 o k : S64x256.Idx)
  exact (congrArg (fun x => x ∈ ((cfg0.win 4).blk t).view.set) (emb4 t o k)).mp h

theorem covered (i : S64x512.Idx) : ∃ t : Fin cfg0.N, (cfg0.win 4).flush t = true ∧ i ∈ ((cfg0.win 4).blk t).view.set := by
  obtain ⟨o, b, rfl⟩ : ∃ (o : Fin 64) (b : Fin 512), i = ix2 o b := ⟨i 0, i 1, eq_ix2 i⟩
  have ht : b.val / 256 < cfg0.N := by rw [points]; omega
  have e : col ⟨b.val / 256, ht⟩ ⟨b.val % 256, Nat.mod_lt _ (by decide)⟩ = b :=
    Fin.ext (by show b.val / 256 * 256 + b.val % 256 = b.val; omega)
  have h := mem_block ⟨b.val / 256, ht⟩ o ⟨b.val % 256, Nat.mod_lt _ (by decide)⟩
  rw [e] at h
  exact ⟨_, flush0_4 _, h⟩

include hX hQ in
/-- The kernel's result, at finite angles. -/
theorem whole : (dats m 0 c).arrAt 4 cfg0.N = G m c :=
  (dats m 0 c).arrAt_eq_of_cover 4 (G m c) (fun t _ => flushed_eq m c hX hQ t) covered

end Finite

end Cert.KernelIdeal.Ops

end
-- ==== Proof.lean ====
/- The proof of the certificate's claim: the frames of the three programs (their generated runs), that the kernel's ideal
   reading is its own text, and that kernel and reference end with the same result when every angle is a real number. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init
public import proofs.«01_k».proof.Proof.Gen.Pre_finite_angles
public import proofs.«01_k».proof.Proof.Finite
public import proofs.«01_k».proof.Proof.RefStep
public import proofs.«01_k».proof.Proof.KernelRun

@[expose] public section

noncomputable section

namespace Cert.Proof

open Idealize.ShloMosaic Idealize.SL.Sem

/-- With every angle a real number both programs end with the circuit's value in their result. -/
theorem equal : Cert.algebraic_KernelIdeal_ReferenceIdeal_pre_finite_angles := fun m g m' g' hpre hargs =>
  ⟨fun c => Cert.KernelIdeal.Ops.G m c,
    (θ_run _ _ _).mono (fun _ h c => ⟨(h c).1.trans (Cert.KernelIdeal.Ops.whole m c
      (Cert.Pre_finite_angles.Reading.inputs_finite _ _ _ _ (hpre c))
      (Cert.Pre_finite_angles.Reading.weights_finite _ _ _ _ (hpre c))), (h c).2⟩) (Cert.KernelIdeal.Value.run_blocks m g),
    (θ_run _ _ _).mono (fun _ h c => ⟨(h c).1.trans (by
      obtain ⟨e0, e1, e2, e3⟩ := hargs c
      have hX : Cert.Circuit.AllReal (n := 512) (k := 12) (m' ((c.tc : Thread Cert.ReferenceIdeal.nD Cert.ReferenceIdeal.τ).loc
          Cert.ReferenceIdeal.main_arg0)) := by
        rw [e0]; exact Cert.Pre_finite_angles.Reading.inputs_finite _ _ _ _ (hpre c)
      have hQ : Cert.Circuit.AllReal (n := 6) (k := 12) (m' ((c.tc : Thread Cert.ReferenceIdeal.nD Cert.ReferenceIdeal.τ).loc
          Cert.ReferenceIdeal.main_arg1)) := by
        rw [e1]; exact Cert.Pre_finite_angles.Reading.weights_finite _ _ _ _ (hpre c)
      refine (Cert.ReferenceIdeal.Gates.result m' c hX hQ).trans ?_
      rw [e0, e1, e2, e3]
      rfl), (h c).2⟩) (Cert.ReferenceIdeal.Value.run m' g')⟩

theorem claim : Cert.Claim := ⟨Cert.Kernel.Gen.facts, Cert.KernelIdeal.Gen.facts, Cert.ReferenceIdeal.Gen.facts,
  Cert.Pre_finite_angles.Gen.facts,
  fun m g _ => Cert.Kernel.Gen.frame m g,
  fun m g _ => Cert.KernelIdeal.Gen.frame m g,
  fun m g _ => Cert.KernelIdeal.Gen.frame m g,
  fun m g _ => (θ_run _ _ _).mono (fun r h => ⟨fun c => (h c).2, sem_eq_zero_of_no_sems (by decide) r.2⟩)
    (Cert.ReferenceIdeal.Value.run m g),
  fun m g _ => (θ_run _ _ _).mono (fun r h => ⟨fun c => (h c).2, sem_eq_zero_of_no_sems (by decide) r.2⟩)
    (Cert.ReferenceIdeal.Value.run m g),
  trivial, equal⟩

end Cert.Proof

end
